-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![16, 128, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![16, 128, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S16x128x32x64 : Shape := ⟨4, ![16, 128, 32, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S16x128x32x64 : S_.BroadcastsInDim S16x128x32x64 (![] : Fin 0 → Fin S16x128x32x64.rank)
  reducesTo_S16x128x32x64_S_d0_1_2_3 : S16x128x32x64.ReducesTo [0, 1, 2, 3] S_

variable [Facts]

def fn_part1 {F : FTy → Type} [FloatOps F] (main_arg2 : FVec F S16x128x32x64 .f32) (main_v12 : IVec S_ 1) (main_v14 : IVec S16x128x32x64 1) (main_v15 : FVec F S16x128x32x64 .f32) : IVec S_ 1 :=
  let main_v16 : IVec S16x128x32x64 1 := cmpf .olt main_arg2 main_v15
  let main_v17 : IVec S16x128x32x64 1 := andi main_v14 main_v16
  let main_c_6 : IVec S_ 1 := constantI S_ 1 1#1
  let main_v18 : IVec S_ 1 := (fun x v => Host.reduce IntOp.andi x v reducesTo_S16x128x32x64_S_d0_1_2_3 h_S_) main_v17 main_c_6
  let main_v19 : IVec S_ 1 := andi main_v12 main_v18
  main_v19

def fn {F : FTy → Type} [FloatOps F] (main_arg0 : FVec F S2x128x512 .f32) (main_arg1 : FVec F S512x256 .f32) (main_arg2 : FVec F S16x128x32x64 .f32) (main_arg3 : FVec F S16x128x32x64 .f32) (main_arg4 : FVec F S256x512 .f32) : IVec S_ 1 :=
  let main_cst : FVec F S_ .f32 := constant S_ .f32 0xFF800000#32
  let main_v0 : FVec F S2x128x512 .f32 := broadcastInDim S2x128x512 ![] bcast_S_S2x128x512 main_cst
  let main_v1 : IVec S2x128x512 1 := cmpf .ogt main_arg0 main_v0
  let main_cst_0 : FVec F S_ .f32 := constant S_ .f32 0x7F800000#32
  let main_v2 : FVec F S2x128x512 .f32 := broadcastInDim S2x128x512 ![] bcast_S_S2x128x512 main_cst_0
  let main_v3 : IVec S2x128x512 1 := cmpf .olt main_arg0 main_v2
  let main_v4 : IVec S2x128x512 1 := andi main_v1 main_v3
  let main_c : IVec S_ 1 := constantI S_ 1 1#1
  let main_v5 : IVec S_ 1 := (fun x v => Host.reduce IntOp.andi x v reducesTo_S2x128x512_S_d0_1_2 h_S_) main_v4 main_c
  let main_cst_1 : FVec F S_ .f32 := constant S_ .f32 0xFF800000#32
  let main_v6 : FVec F S512x256 .f32 := broadcastInDim S512x256 ![] bcast_S_S512x256 main_cst_1
  let main_v7 : IVec S512x256 1 := cmpf .ogt main_arg1 main_v6
  let main_cst_2 : FVec F S_ .f32 := constant S_ .f32 0x7F800000#32
  let main_v8 : FVec F S512x256 .f32 := broadcastInDim S512x256 ![] bcast_S_S512x256 main_cst_2
  let main_v9 : IVec S512x256 1 := cmpf .olt main_arg1 main_v8
  let main_v10 : IVec S512x256 1 := andi main_v7 main_v9
  let main_c_3 : IVec S_ 1 := constantI S_ 1 1#1
  let main_v11 : IVec S_ 1 := (fun x v => Host.reduce IntOp.andi x v reducesTo_S512x256_S_d0_1 h_S_) main_v10 main_c_3
  let main_v12 : IVec S_ 1 := andi main_v5 main_v11
  let main_cst_4 : FVec F S_ .f32 := constant S_ .f32 0xFF800000#32
  let main_v13 : FVec F S16x128x32x64 .f32 := broadcastInDim S16x128x32x64 ![] bcast_S_S16x128x32x64 main_cst_4
  let main_v14 : IVec S16x128x32x64 1 := cmpf .ogt main_arg2 main_v13
  let main_cst_5 : FVec F S_ .f32 := constant S_ .f32 0x7F800000#32
  let main_v15 : FVec F S16x128x32x64 .f32 := broadcastInDim S16x128x32x64 ![] bcast_S_S16x128x32x64 main_cst_5
  fn_part1 (F := F) main_arg2 main_v12 main_v14 main_v15
-- ==== Pre_finite_ReferenceIdeal.lean ====
abbrev S16x128x512 : Shape := ⟨3, ![16, 128, 512]⟩
abbrev S512x2048 : Shape := ⟨2, ![512, 2048]⟩
abbrev S16x128x32x64 : Shape := ⟨4, ![16, 128, 32, 64]⟩
abbrev S2048x512 : Shape := ⟨2, ![2048, 512]⟩
abbrev S_ : Shape := ⟨0, ![]⟩

class Facts : Prop where
  bcast_S_S16x128x512 : S_.BroadcastsInDim S16x128x512 (![] : Fin 0 → Fin S16x128x512.rank)
  reducesTo_S16x128x512_S_d0_1_2 : S16x128x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S16x128x32x64 : S_.BroadcastsInDim S16x128x32x64 (![] : Fin 0 → Fin S16x128x32x64.rank)
  reducesTo_S16x128x32x64_S_d0_1_2_3 : S16x128x32x64.ReducesTo [0, 1, 2, 3] S_

variable [Facts]

def fn_part1 {F : FTy → Type} [FloatOps F] (main_arg2 : FVec F S16x128x32x64 .f32) (main_v12 : IVec S_ 1) (main_v14 : IVec S16x128x32x64 1) (main_v15 : FVec F S16x128x32x64 .f32) : IVec S_ 1 :=
  let main_v16 : IVec S16x128x32x64 1 := cmpf .olt main_arg2 main_v15
  let main_v17 : IVec S16x128x32x64 1 := andi main_v14 main_v16
  let main_c_6 : IVec S_ 1 := constantI S_ 1 1#1
  let main_v18 : IVec S_ 1 := (fun x v => Host.reduce IntOp.andi x v reducesTo_S16x128x32x64_S_d0_1_2_3 h_S_) main_v17 main_c_6
  let main_v19 : IVec S_ 1 := andi main_v12 main_v18
  main_v19

def fn {F : FTy → Type} [FloatOps F] (main_arg0 : FVec F S16x128x512 .f32) (main_arg1 : FVec F S512x2048 .f32) (main_arg2 : FVec F S16x128x32x64 .f32) (main_arg3 : FVec F S16x128x32x64 .f32) (main_arg4 : FVec F S2048x512 .f32) : IVec S_ 1 :=
  let main_cst : FVec F S_ .f32 := constant S_ .f32 0xFF800000#32
  let main_v0 : FVec F S16x128x512 .f32 := broadcastInDim S16x128x512 ![] bcast_S_S16x128x512 main_cst
  let main_v1 : IVec S16x128x512 1 := cmpf .ogt main_arg0 main_v0
  let main_cst_0 : FVec F S_ .f32 := constant S_ .f32 0x7F800000#32
  let main_v2 : FVec F S16x128x512 .f32 := broadcastInDim S16x128x512 ![] bcast_S_S16x128x512 main_cst_0
  let main_v3 : IVec S16x128x512 1 := cmpf .olt main_arg0 main_v2
  let main_v4 : IVec S16x128x512 1 := andi main_v1 main_v3
  let main_c : IVec S_ 1 := constantI S_ 1 1#1
  let main_v5 : IVec S_ 1 := (fun x v => Host.reduce IntOp.andi x v reducesTo_S16x128x512_S_d0_1_2 h_S_) main_v4 main_c
  let main_cst_1 : FVec F S_ .f32 := constant S_ .f32 0xFF800000#32
  let main_v6 : FVec F S512x2048 .f32 := broadcastInDim S512x2048 ![] bcast_S_S512x2048 main_cst_1
  let main_v7 : IVec S512x2048 1 := cmpf .ogt main_arg1 main_v6
  let main_cst_2 : FVec F S_ .f32 := constant S_ .f32 0x7F800000#32
  let main_v8 : FVec F S512x2048 .f32 := broadcastInDim S512x2048 ![] bcast_S_S512x2048 main_cst_2
  let main_v9 : IVec S512x2048 1 := cmpf .olt main_arg1 main_v8
  let main_v10 : IVec S512x2048 1 := andi main_v7 main_v9
  let main_c_3 : IVec S_ 1 := constantI S_ 1 1#1
  let main_v11 : IVec S_ 1 := (fun x v => Host.reduce IntOp.andi x v reducesTo_S512x2048_S_d0_1 h_S_) main_v10 main_c_3
  let main_v12 : IVec S_ 1 := andi main_v5 main_v11
  let main_cst_4 : FVec F S_ .f32 := constant S_ .f32 0xFF800000#32
  let main_v13 : FVec F S16x128x32x64 .f32 := broadcastInDim S16x128x32x64 ![] bcast_S_S16x128x32x64 main_cst_4
  let main_v14 : IVec S16x128x32x64 1 := cmpf .ogt main_arg2 main_v13
  let main_cst_5 : FVec F S_ .f32 := constant S_ .f32 0x7F800000#32
  let main_v15 : FVec F S16x128x32x64 .f32 := broadcastInDim S16x128x32x64 ![] bcast_S_S16x128x32x64 main_cst_5
  fn_part1 (F := F) main_arg2 main_v12 main_v14 main_v15
-- ==== Kernel.lean ====
abbrev S2x128x512 : Shape := ⟨3, ![2, 128, 512]⟩
abbrev S512x256 : Shape := ⟨2, ![512, 256]⟩
abbrev S16x128x32x64 : Shape := ⟨4, ![16, 128, 32, 64]⟩
abbrev S256x512 : Shape := ⟨2, ![256, 512]⟩
abbrev S8x512x256 : Shape := ⟨3, ![8, 512, 256]⟩
abbrev S8x256x512 : Shape := ⟨3, ![8, 256, 512]⟩
abbrev S2x128x32x64 : Shape := ⟨4, ![2, 128, 32, 64]⟩
abbrev S7 : Shape := ⟨1, ![7]⟩
abbrev S2 : Shape := ⟨1, ![2]⟩
abbrev S1 : Shape := ⟨1, ![1]⟩
abbrev S_ : Shape := ⟨0, ![]⟩
abbrev S1x512x256 : Shape := ⟨3, ![1, 512, 256]⟩
abbrev S1x256x512 : Shape := ⟨3, ![1, 256, 512]⟩
abbrev S256x256 : Shape := ⟨2, ![256, 256]⟩
abbrev S256x64 : Shape := ⟨2, ![256, 64]⟩
abbrev S2x128x1x64 : Shape := ⟨4, ![2, 128, 1, 64]⟩
abbrev S2x128x64 : Shape := ⟨3, ![2, 128, 64]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S16x128x32x64, .f32⟩
  | .hbm, ⟨3, _⟩ => ⟨S16x128x32x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S256x512, .f32⟩
  | .local _ .vmem, ⟨3, _⟩ => ⟨S2x128x512, .f32⟩
  | .local _ .vmem, ⟨4, _⟩ => ⟨S8x512x256, .bf16⟩
  | .local _ .vmem, ⟨5, _⟩ => ⟨S8x256x512, .bf16⟩
  | .local _ .vmem, ⟨6, _⟩ => ⟨S2x128x32x64, .f32⟩
  | .local _ .vmem, ⟨7, _⟩ => ⟨S2x128x32x64, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v25 : BitVec 32 := Scalar.muli v2 c2_i32
  let c0_i32_15 : BitVec 32 := 0#32
  let c0_i32_16 : BitVec 32 := 0#32
  let c0_i32_17 : BitVec 32 := 0#32
  ![v25.toNat, 0, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : Index := Scalar.indexCast v2
  let c0_23 : Index := 0#32
  let c0_24 : Index := 0#32
  ![v37.toNat, 0, 0]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v45 : Index := Scalar.indexCast v2
  let c0_27 : Index := 0#32
  let c0_28 : Index := 0#32
  ![v45.toNat, 0, 0]
def k0_dev1 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_30 : BitVec 32 := 1#32
  let v50 : BitVec 32 := Scalar.muli v24 c1_i32_30
  let v51 : BitVec 32 := Scalar.addi c0_i32_31 v50
  v51.toNat
def k0_dev2 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_33 : BitVec 32 := 1#32
  let v52 : BitVec 32 := Scalar.muli v13 c1_i32_33
  let v53 : BitVec 32 := Scalar.addi c0_i32_34 v52
  v53.toNat
def k0_off4 (d0 : Dev nD) (c0_i32_36 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v54 : BitVec 32 := Scalar.subi v2 c0_i32_36
  let c8_i32_37 : BitVec 32 := 8#32
  let c0_i32_38 : BitVec 32 := 0#32
  let v55 : BitVec 1 := Scalar.cmpi .eq c8_i32_37 c0_i32_38
  let c1_i32_39 : BitVec 32 := 1#32
  let v56 : BitVec 32 := Scalar.select v55 c1_i32_39 c8_i32_37
  let v57 : BitVec 32 := Scalar.remsi v54 v56
  let c0_i32_41 : BitVec 32 := 0#32
  let v59 : BitVec 1 := Scalar.cmpi .slt v57 c0_i32_41
  let c0_i32_42 : BitVec 32 := 0#32
  let v60 : BitVec 1 := Scalar.cmpi .slt v56 c0_i32_42
  let v61 : BitVec 1 := Scalar.xori v59 v60
  let c0_i32_40 : BitVec 32 := 0#32
  let v58 : BitVec 1 := Scalar.cmpi .ne v57 c0_i32_40
  let v62 : BitVec 1 := Scalar.andi v61 v58
  let v63 : BitVec 32 := Scalar.addi v57 v56
  let v64 : BitVec 32 := Scalar.select v62 v63 v57
  let c0_i32_47 : BitVec 32 := 0#32
  let c0_i32_48 : BitVec 32 := 0#32
  ![v64.toNat, 0, 0]
def k0_dev3 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_45 : BitVec 32 := 1#32
  let v65 : BitVec 32 := Scalar.muli v13 c1_i32_45
  let v66 : BitVec 32 := Scalar.addi c0_i32_46 v65
  v66.toNat
def k0_off5 (d0 : Dev nD) (c0_i32_36 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v54 : BitVec 32 := Scalar.subi v2 c0_i32_36
  let c8_i32_37 : BitVec 32 := 8#32
  let c0_i32_38 : BitVec 32 := 0#32
  let v55 : BitVec 1 := Scalar.cmpi .eq c8_i32_37 c0_i32_38
  let c1_i32_39 : BitVec 32 := 1#32
  let v56 : BitVec 32 := Scalar.select v55 c1_i32_39 c8_i32_37
  let v57 : BitVec 32 := Scalar.remsi v54 v56
  let c0_i32_41 : BitVec 32 := 0#32
  let v59 : BitVec 1 := Scalar.cmpi .slt v57 c0_i32_41
  let c0_i32_42 : BitVec 32 := 0#32
  let v60 : BitVec 1 := Scalar.cmpi .slt v56 c0_i32_42
  let v61 : BitVec 1 := Scalar.xori v59 v60
  let c0_i32_40 : BitVec 32 := 0#32
  let v58 : BitVec 1 := Scalar.cmpi .ne v57 c0_i32_40
  let v62 : BitVec 1 := Scalar.andi v61 v58
  let v63 : BitVec 32 := Scalar.addi v57 v56
  let v64 : BitVec 32 := Scalar.select v62 v63 v57
  let c0_i32_55 : BitVec 32 := 0#32
  let c0_i32_56 : BitVec 32 := 0#32
  ![v64.toNat, 0, 0]
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_53 : BitVec 32 := 1#32
  let v75 : BitVec 32 := Scalar.muli v13 c1_i32_53
  let v76 : BitVec 32 := Scalar.addi c0_i32_54 v75
  v76.toNat
def k0_dev5 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_98 : BitVec 32 := 1#32
  let v124 : BitVec 32 := Scalar.muli v13 c1_i32_98
  let v125 : BitVec 32 := Scalar.addi c0_i32_99 v124
  v125.toNat
def k0_dev6 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_106 : BitVec 32 := 1#32
  let v134 : BitVec 32 := Scalar.muli v13 c1_i32_106
  let v135 : BitVec 32 := Scalar.addi c0_i32_107 v134
  v135.toNat
def k0_dev7 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_151 : BitVec 32 := 1#32
  let v183 : BitVec 32 := Scalar.muli v13 c1_i32_151
  let v184 : BitVec 32 := Scalar.addi c0_i32_152 v183
  v184.toNat
def k0_dev8 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_159 : BitVec 32 := 1#32
  let v193 : BitVec 32 := Scalar.muli v13 c1_i32_159
  let v194 : BitVec 32 := Scalar.addi c0_i32_160 v193
  v194.toNat
def k0_dev9 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_203 : BitVec 32 := 1#32
  let v242 : BitVec 32 := Scalar.muli v13 c1_i32_203
  let v243 : BitVec 32 := Scalar.addi c0_i32_204 v242
  v243.toNat
def k0_dev10 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_211 : BitVec 32 := 1#32
  let v252 : BitVec 32 := Scalar.muli v13 c1_i32_211
  let v253 : BitVec 32 := Scalar.addi c0_i32_212 v252
  v253.toNat
def k0_dev11 (d0 : Dev nD) : Nat :=
  let c0_i32_256 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_255 : BitVec 32 := 1#32
  let v301 : BitVec 32 := Scalar.muli v13 c1_i32_255
  let v302 : BitVec 32 := Scalar.addi c0_i32_256 v301
  v302.toNat
def k0_dev12 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_263 : BitVec 32 := 1#32
  let v311 : BitVec 32 := Scalar.muli v13 c1_i32_263
  let v312 : BitVec 32 := Scalar.addi c0_i32_264 v311
  v312.toNat
def k0_dev13 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_307 : BitVec 32 := 1#32
  let v360 : BitVec 32 := Scalar.muli v13 c1_i32_307
  let v361 : BitVec 32 := Scalar.addi c0_i32_308 v360
  v361.toNat
def k0_dev14 (d0 : Dev nD) : Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_315 : BitVec 32 := 1#32
  let v370 : BitVec 32 := Scalar.muli v13 c1_i32_315
  let v371 : BitVec 32 := Scalar.addi c0_i32_316 v370
  v371.toNat
def k0_dev15 (d0 : Dev nD) : Nat :=
  let c0_i32_360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_359 : BitVec 32 := 1#32
  let v419 : BitVec 32 := Scalar.muli v13 c1_i32_359
  let v420 : BitVec 32 := Scalar.addi c0_i32_360 v419
  v420.toNat
def k0_dev16 (d0 : Dev nD) : Nat :=
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_367 : BitVec 32 := 1#32
  let v429 : BitVec 32 := Scalar.muli v13 c1_i32_367
  let v430 : BitVec 32 := Scalar.addi c0_i32_368 v429
  v430.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S16x128x512 : Shape := ⟨3, ![16, 128, 512]⟩
abbrev S512x2048 : Shape := ⟨2, ![512, 2048]⟩
abbrev S16x128x32x64 : Shape := ⟨4, ![16, 128, 32, 64]⟩
abbrev S2048x512 : Shape := ⟨2, ![2048, 512]⟩
abbrev S16x128x2048 : Shape := ⟨3, ![16, 128, 2048]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S16x32x128x128 : Shape := ⟨4, ![16, 32, 128, 128]⟩
abbrev S1x1x128x128 : Shape := ⟨4, ![1, 1, 128, 128]⟩
abbrev S16x32x128 : Shape := ⟨3, ![16, 32, 128]⟩
abbrev S16x32x128x1 : Shape := ⟨4, ![16, 32, 128, 1]⟩
abbrev S1x1x128x1 : Shape := ⟨4, ![1, 1, 128, 1]⟩
abbrev S16x32x64x128 : Shape := ⟨4, ![16, 32, 64, 128]⟩

abbrev nBuf : Space → Nat
  | .hbm => 137
  | .vmem => 0
  | .smem => 0
  | _ => 0

abbrev hbmTy0_0 (i : Nat) : BufTy := match i % 128 with
  | 0 => ⟨S16x128x512, .f32⟩
  | 1 => ⟨S512x2048, .f32⟩
  | 2 => ⟨S16x128x32x64, .f32⟩
  | 3 => ⟨S16x128x32x64, .f32⟩
  | 4 => ⟨S2048x512, .f32⟩
  | 5 => ⟨S16x128x2048, .f32⟩
  | 6 => ⟨S16x128x32x64, .f32⟩
  | 7 => ⟨S128, .i32⟩
  | 8 => ⟨S_, .i32⟩
  | 9 => ⟨S_, .i32⟩
  | 10 => ⟨S128, .i32⟩
  | 11 => ⟨S128, .i32⟩
  | 12 => ⟨S128, .i32⟩
  | 13 => ⟨S_, .i32⟩
  | 14 => ⟨S128, .i32⟩
  | 15 => ⟨S128, .i1⟩
  | 16 => ⟨S128, .i32⟩
  | 17 => ⟨S128, .i32⟩
  | 18 => ⟨S_, .i32⟩
  | 19 => ⟨S128, .i32⟩
  | 20 => ⟨S128, .i1⟩
  | 21 => ⟨S128, .i1⟩
  | 22 => ⟨S_, .i32⟩
  | 23 => ⟨S128, .i32⟩
  | 24 => ⟨S128, .i32⟩
  | 25 => ⟨S128, .i32⟩
  | 26 => ⟨S128x1, .i32⟩
  | 27 => ⟨S128, .i32⟩
  | 28 => ⟨S_, .i32⟩
  | 29 => ⟨S_, .i32⟩
  | 30 => ⟨S128, .i32⟩
  | 31 => ⟨S128, .i32⟩
  | 32 => ⟨S128, .i32⟩
  | 33 => ⟨S_, .i32⟩
  | 34 => ⟨S128, .i32⟩
  | 35 => ⟨S128, .i1⟩
  | 36 => ⟨S128, .i32⟩
  | 37 => ⟨S128, .i32⟩
  | 38 => ⟨S_, .i32⟩
  | 39 => ⟨S128, .i32⟩
  | 40 => ⟨S128, .i1⟩
  | 41 => ⟨S128, .i1⟩
  | 42 => ⟨S_, .i32⟩
  | 43 => ⟨S128, .i32⟩
  | 44 => ⟨S128, .i32⟩
  | 45 => ⟨S128, .i32⟩
  | 46 => ⟨S1x128, .i32⟩
  | 47 => ⟨S128x128, .i32⟩
  | 48 => ⟨S128x128, .i32⟩
  | 49 => ⟨S128x128, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x128, .i32⟩
  | 57 => ⟨S1x128, .i32⟩
  | 58 => ⟨S_, .i32⟩
  | 59 => ⟨S1x128, .i32⟩
  | 60 => ⟨S1x128, .i1⟩
  | 61 => ⟨S_, .i32⟩
  | 62 => ⟨S1x128, .i32⟩
  | 63 => ⟨S1x128, .i1⟩
  | 64 => ⟨S_, .i32⟩
  | 65 => ⟨S_, .i1⟩
  | 66 => ⟨S1x128, .i1⟩
  | 67 => ⟨S1x128, .i1⟩
  | 68 => ⟨S1x128, .i1⟩
  | 69 => ⟨S1x128, .i32⟩
  | 70 => ⟨S1x128, .i32⟩
  | 71 => ⟨S1x128, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S128x1, .i32⟩
  | 79 => ⟨S128x1, .i32⟩
  | 80 => ⟨S_, .i32⟩
  | 81 => ⟨S128x1, .i32⟩
  | 82 => ⟨S128x1, .i1⟩
  | 83 => ⟨S_, .i32⟩
  | 84 => ⟨S128x1, .i32⟩
  | 85 => ⟨S128x1, .i1⟩
  | 86 => ⟨S_, .i32⟩
  | 87 => ⟨S_, .i1⟩
  | 88 => ⟨S128x1, .i1⟩
  | 89 => ⟨S128x1, .i1⟩
  | 90 => ⟨S128x1, .i1⟩
  | 91 => ⟨S128x1, .i32⟩
  | 92 => ⟨S128x1, .i32⟩
  | 93 => ⟨S128x1, .i32⟩
  | 94 => ⟨S128x128, .i32⟩
  | 95 => ⟨S128x128, .i32⟩
  | 96 => ⟨S128x128, .i1⟩
  | 97 => ⟨S128x128, .i1⟩
  | 98 => ⟨S16x32x128x128, .f32⟩
  | 99 => ⟨S_, .f32⟩
  | 100 => ⟨S16x32x128x128, .f32⟩
  | 101 => ⟨S16x32x128x128, .f32⟩
  | 102 => ⟨S1x1x128x128, .i1⟩
  | 103 => ⟨S_, .f32⟩
  | 104 => ⟨S_, .f32⟩
  | 105 => ⟨S16x32x128x128, .i1⟩
  | 106 => ⟨S16x32x128x128, .f32⟩
  | 107 => ⟨S16x32x128x128, .f32⟩
  | 108 => ⟨S_, .f32⟩
  | 109 => ⟨S16x32x128, .f32⟩
  | 110 => ⟨S16x32x128x1, .f32⟩
  | 111 => ⟨S16x32x128x128, .f32⟩
  | 112 => ⟨S16x32x128x128, .f32⟩
  | 113 => ⟨S16x32x128x128, .f32⟩
  | 114 => ⟨S_, .i1⟩
  | 115 => ⟨S128, .i1⟩
  | 116 => ⟨S1x1x128x1, .i1⟩
  | 117 => ⟨S_, .f32⟩
  | 118 => ⟨S16x32x128, .f32⟩
  | 119 => ⟨S16x32x128x1, .f32⟩
  | 120 => ⟨S_, .f32⟩
  | 121 => ⟨S_, .f32⟩
  | 122 => ⟨S16x32x128x1, .i1⟩
  | 123 => ⟨S16x32x128x1, .f32⟩
  | 124 => ⟨S16x32x128x1, .f32⟩
  | 125 => ⟨S16x32x128x128, .f32⟩
  | 126 => ⟨S16x32x128x128, .f32⟩
  | 127 => ⟨S1x1x128x1, .i1⟩
  | _ => ⟨S16x128x512, .f32⟩

abbrev hbmTy0_1 (i : Nat) : BufTy := match i % 128 with
  | 0 => ⟨S_, .f32⟩
  | 1 => ⟨S_, .f32⟩
  | 2 => ⟨S16x32x128x128, .i1⟩
  | 3 => ⟨S16x32x128x128, .f32⟩
  | 4 => ⟨S16x32x128x128, .f32⟩
  | 5 => ⟨S16x32x64x128, .f32⟩
  | 6 => ⟨S16x128x32x64, .f32⟩
  | 7 => ⟨S16x128x2048, .f32⟩
  | 8 => ⟨S16x128x512, .f32⟩
  | _ => ⟨S16x128x512, .f32⟩

abbrev hbmTy (i : Nat) : BufTy := match i / 128 with
  | 0 => hbmTy0_0 i
  | 1 => hbmTy0_1 i
  | _ => ⟨S16x128x512, .f32⟩

abbrev bufTy : (tb : Table) → Fin (tcTables nBuf tb) → BufTy
  | .hbm, ⟨i, _⟩ => hbmTy i
  | _, _ => ⟨S16x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Sched.lean ====
/-
The ring's protocol: devices, memrefs, cells, contents and the schedule of the rounds library.

Device `c` has one barrier cell (the runtime's semaphore of collective id 0) and thirty DMA cells of its own: for each hop
`h` of seven the send and receive cells of the query-weight block and of the output-weight block, and the two cells of the
local copies of keys and values. Each is used for one round.
* barrier: `nxt c` pays duty `true` (it hands its own seven landing slots of both gather buffers), `prv c` duty `false`;
* send cell of hop `h`: the transfer's source slot back, slot `c - h`;
* receive cell of hop `h`: slot `c - 1 - h` holding the block of device `c - 1 - h`;
* the key and value cells: the copied scratch and the source slice back.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
def nxt (c : Dev nD) : Dev nD := ⟨(c.val + 1) % 8, Nat.mod_lt _ (by decide)⟩
set_option backward.proofsInPublic true in
def prv (c : Dev nD) : Dev nD := ⟨(c.val + 7) % 8, Nat.mod_lt _ (by decide)⟩
set_option backward.proofsInPublic true in
/-- The block `k` places before `c`. -/
def blk (c : Dev nD) (k : ℕ) : Fin 8 := ⟨(c.val + (8 - k)) % 8, Nat.mod_lt _ (by decide)⟩

theorem prv_nxt (c : Dev nD) : prv (nxt c) = c := by revert c; decide
theorem nxt_prv (c : Dev nD) : nxt (prv c) = c := by revert c; decide
theorem blk_nxt (c : Dev nD) (h : Fin 7) : blk (nxt c) (h.val + 1) = blk c h.val := by revert c h; decide
theorem blk_zero (c : Dev nD) : blk c 0 = c := by revert c; decide

def ring : Dev nD ≃ Dev nD := ⟨nxt, prv, prv_nxt, nxt_prv⟩

theorem off4_eq : ∀ (c : Dev nD) (h : Fin 7), k0_off4 c (BitVec.ofNat 32 h.val) = ![(blk c h.val).val, 0, 0] := by decide +kernel
theorem off5_eq : ∀ (c : Dev nD) (h : Fin 7), k0_off5 c (BitVec.ofNat 32 h.val) = ![(blk c h.val).val, 0, 0] := by decide +kernel

/-! ## The memrefs -/

abbrev xM : Memref sig .tc .vmem S2x128x512 .f32 := Memref.whole cc0_stg0_0
abbrev wqM : Memref sig .tc .vmem S512x256 .f32 := Memref.whole cc0_stg1_0
abbrev woM : Memref sig .tc .vmem S256x512 .f32 := Memref.whole cc0_stg2_0
abbrev outM : Memref sig .tc .vmem S2x128x512 .f32 := Memref.whole cc0_stg3_0
abbrev aq : Memref sig .tc .vmem S8x512x256 .bf16 := Memref.whole cc0_scratch0
abbrev ao : Memref sig .tc .vmem S8x256x512 .bf16 := Memref.whole cc0_scratch1
abbrev kM : Memref sig .tc .vmem S2x128x32x64 .f32 := Memref.whole cc0_scratch2
abbrev vM : Memref sig .tc .vmem S2x128x32x64 .f32 := Memref.whole cc0_scratch3
abbrev kH : Memref sig .tc .hbm S16x128x32x64 .f32 := Memref.whole main_arg2
abbrev vH : Memref sig .tc .hbm S16x128x32x64 .f32 := Memref.whole main_arg3

theorem inbq (b : Fin 8) : ∀ a, (![b.val, 0, 0] : Fin 3 → ℕ) a + S1x512x256.size a ≤ S8x512x256.size a := by revert b; decide
theorem inbo (b : Fin 8) : ∀ a, (![b.val, 0, 0] : Fin 3 → ℕ) a + S1x256x512.size a ≤ S8x256x512.size a := by revert b; decide

abbrev rq8 (b : Fin 8) : Rect S8x512x256 := Rect.unit (s := S8x512x256) ![b.val, 0, 0] S1x512x256.size (inbq b)
abbrev ro8 (b : Fin 8) : Rect S8x256x512 := Rect.unit (s := S8x256x512) ![b.val, 0, 0] S1x256x512.size (inbo b)

/-- Slot `b` of the gathered query weights, and of the gathered output weights. -/
abbrev qM (b : Fin 8) : Memref sig .tc .vmem S512x256 .bf16 :=
  (aq.slice (rq8 b) (fun _ => rfl)).squeeze S512x256 squeezes_S1x512x256_S512x256
abbrev oM (b : Fin 8) : Memref sig .tc .vmem S256x512 .bf16 :=
  (ao.slice (ro8 b) (fun _ => rfl)).squeeze S256x512 squeezes_S1x256x512_S256x512

/-- Device `c`'s two batches of the keys and of the values. -/
abbrev kS (c : Dev nD) : Memref sig .tc .hbm S2x128x32x64 .f32 :=
  kH.slice (Rect.unit (s := S16x128x32x64) (k0_off1 c) S2x128x32x64.size (k0_off1_inb c)) (fun _ => rfl)
abbrev vS (c : Dev nD) : Memref sig .tc .hbm S2x128x32x64 .f32 :=
  vH.slice (Rect.unit (s := S16x128x32x64) (k0_off1 c) S2x128x32x64.size (k0_off1_inb c)) (fun _ => rfl)

theorem qM_set (b : Fin 8) : (qM b).view.set = (rq8 b).set := by
  refine (View.set_reshape _ _).trans ?_; exact View.set_slice_whole _ _
theorem oM_set (b : Fin 8) : (oM b).view.set = (ro8 b).set := by
  refine (View.set_reshape _ _).trans ?_; exact View.set_slice_whole _ _

theorem rq8_disj (b b' : Fin 8) (h : b ≠ b') : Disjoint (rq8 b).set (rq8 b').set :=
  Ring.lead_disjoint (s := S8x512x256) (0 : Fin 3) 1 (fun b : Fin 8 => (![b.val, 0, 0] : Fin 3 → ℕ)) S1x512x256.size inbq
    (fun b => (Nat.one_mul _).symm) rfl b b' h
theorem ro8_disj (b b' : Fin 8) (h : b ≠ b') : Disjoint (ro8 b).set (ro8 b').set :=
  Ring.lead_disjoint (s := S8x256x512) (0 : Fin 3) 1 (fun b : Fin 8 => (![b.val, 0, 0] : Fin 3 → ℕ)) S1x256x512.size inbo
    (fun b => (Nat.one_mul _).symm) rfl b b' h
theorem rq8_cover : Finset.univ.biUnion (fun b => (rq8 b).set) = Finset.univ :=
  Ring.lead_cover (s := S8x512x256) (0 : Fin 3) 1 (fun b : Fin 8 => (![b.val, 0, 0] : Fin 3 → ℕ)) S1x512x256.size inbq
    (fun b => (Nat.one_mul _).symm) (fun b a ha => by fin_cases a <;> first | exact absurd rfl ha | rfl) rfl
    (fun a ha => by fin_cases a <;> first | exact absurd rfl ha | rfl) rfl
theorem ro8_cover : Finset.univ.biUnion (fun b => (ro8 b).set) = Finset.univ :=
  Ring.lead_cover (s := S8x256x512) (0 : Fin 3) 1 (fun b : Fin 8 => (![b.val, 0, 0] : Fin 3 → ℕ)) S1x256x512.size inbo
    (fun b => (Nat.one_mul _).symm) (fun b a ha => by fin_cases a <;> first | exact absurd rfl ha | rfl) rfl
    (fun a ha => by fin_cases a <;> first | exact absurd rfl ha | rfl) rfl

/-! ## The cells -/

abbrev barS : Sem sig := (SemArray.scalar (sig.barrier 0 rfl) : Sems sig S_).sem
set_option backward.proofsInPublic true in
/-- The kernel's own DMA semaphore `q` of thirty. -/
def ds (q : Fin 30) : DmaSem sig := ⟨4 + q.val, by have := q.isLt; show 4 + q.val < 34; omega⟩

set_option backward.proofsInPublic true in
def sqI (h : Fin 7) : Fin 30 := ⟨h.val, by omega⟩
set_option backward.proofsInPublic true in
def rqI (h : Fin 7) : Fin 30 := ⟨7 + h.val, by omega⟩
set_option backward.proofsInPublic true in
def soI (h : Fin 7) : Fin 30 := ⟨14 + h.val, by omega⟩
set_option backward.proofsInPublic true in
def roI (h : Fin 7) : Fin 30 := ⟨21 + h.val, by omega⟩
abbrev kI : Fin 30 := 28
abbrev vI : Fin 30 := 29

abbrev barCell (c : Dev nD) : GSem nD τ sig := ((c : Thread nD τ), .reg barS)
abbrev dCell (c : Dev nD) (q : Fin 30) : GSem nD τ sig := ((c : Thread nD τ), .dma (ds q))

/-- The kernel's own semaphores as the launch indexes them; all of the ring's, the barrier first. -/
abbrev osem : Fin 30 → SemLoc sig := fun q => .dma (ds q)
abbrev csem : Option (Fin 30) → SemLoc sig := fun | none => .reg barS | some q => .dma (ds q)
abbrev kcell (ck : Dev nD × Option (Fin 30)) : GSem nD τ sig := ((ck.1 : Thread nD τ), csem ck.2)

abbrev NQ : ℕ := (qM 0).view.dmaCredit
abbrev NO : ℕ := (oM 0).view.dmaCredit
abbrev NK : ℕ := kM.view.dmaCredit
theorem NQ_pos : 0 < NQ := View.dmaCredit_pos _ (by decide)
theorem NO_pos : 0 < NO := View.dmaCredit_pos _ (by decide)
theorem NK_pos : 0 < NK := View.dmaCredit_pos _ (by decide)

/-! ## Contents -/

def xstg (c : Dev nD) : (cc0_stg0_0 : Ref sig .tc).ty.Contents (Elt F) :=
  (win0_0.blk (0 : Fin 1)).view.read (Elt F) ((s₀ m ρ).mem ((c : Thread nD τ).loc main_arg0))
def wqstg (c : Dev nD) : (cc0_stg1_0 : Ref sig .tc).ty.Contents (Elt F) :=
  (win0_1.blk (0 : Fin 1)).view.read (Elt F) ((s₀ m ρ).mem ((c : Thread nD τ).loc main_arg1))
def wostg (c : Dev nD) : (cc0_stg2_0 : Ref sig .tc).ty.Contents (Elt F) :=
  (win0_2.blk (0 : Fin 1)).view.read (Elt F) ((s₀ m ρ).mem ((c : Thread nD τ).loc main_arg4))

/-- The index of slot `i 0`'s block that the whole buffer's index `i` names. -/
def inq (i : S8x512x256.Idx) : S1x512x256.Idx := fun a => match a with
  | ⟨0, _⟩ => (0 : Fin 1) | ⟨1, _⟩ => i (1 : Fin 3) | ⟨2, _⟩ => i (2 : Fin 3)
def ino (i : S8x256x512.Idx) : S1x256x512.Idx := fun a => match a with
  | ⟨0, _⟩ => (0 : Fin 1) | ⟨1, _⟩ => i (1 : Fin 3) | ⟨2, _⟩ => i (2 : Fin 3)

/-- The gathered query weights: slot `b` holds device `b`'s block, rounded to bf16. -/
def GQ : (cc0_scratch0 : Ref sig .tc).ty.Contents (Elt F) := fun i => k0_pay2 (wqstg m ρ ((i : S8x512x256.Idx) (0 : Fin 3))) (inq i)
def GO : (cc0_scratch1 : Ref sig .tc).ty.Contents (Elt F) := fun i => k0_pay3 (wostg m ρ ((i : S8x256x512.Idx) (0 : Fin 3))) (ino i)

def kArg (c : Dev nD) : Buf (Elt F) ((c : Thread nD τ).loc main_arg2) := (s₀ m ρ).mem ((c : Thread nD τ).loc main_arg2)
def vArg (c : Dev nD) : Buf (Elt F) ((c : Thread nD τ).loc main_arg3) := (s₀ m ρ).mem ((c : Thread nD τ).loc main_arg3)
/-- What the local copies leave in the key and value scratch. -/
def GK (c : Dev nD) : (cc0_scratch2 : Ref sig .tc).ty.Contents (Elt F) := (kS c).view.read (Elt F) (kArg m ρ c)
def GV (c : Dev nD) : (cc0_scratch3 : Ref sig .tc).ty.Contents (Elt F) := (vS c).view.read (Elt F) (vArg m ρ c)

def qPts (c : Dev nD) (b : Fin 8) (f : (cc0_scratch0 : Ref sig .tc).ty.Contents (Elt F)) : sProp 𝕄 :=
  (qM b).view.loc (c : Thread nD τ) ↦[(qM b).view.set]{fullShare} f
def oPts (c : Dev nD) (b : Fin 8) (f : (cc0_scratch1 : Ref sig .tc).ty.Contents (Elt F)) : sProp 𝕄 :=
  (oM b).view.loc (c : Thread nD τ) ↦[(oM b).view.set]{fullShare} f
def kPts (c : Dev nD) (f : (cc0_scratch2 : Ref sig .tc).ty.Contents (Elt F)) : sProp 𝕄 :=
  kM.view.loc (c : Thread nD τ) ↦[kM.view.set]{fullShare} f
def vPts (c : Dev nD) (f : (cc0_scratch3 : Ref sig .tc).ty.Contents (Elt F)) : sProp 𝕄 :=
  vM.view.loc (c : Thread nD τ) ↦[vM.view.set]{fullShare} f
def kSPts (c : Dev nD) : sProp 𝕄 := (kS c).view.loc (c : Thread nD τ) ↦[(kS c).view.set]{fullShare} kArg m ρ c
def vSPts (c : Dev nD) : sProp 𝕄 := (vS c).view.loc (c : Thread nD τ) ↦[(vS c).view.set]{fullShare} vArg m ρ c

instance qPts_storable (c : Dev nD) (b) (f) : BI.Storable (upEmb : UEmb _ 𝕄) (qPts (F := F) c b f) := by unfold qPts; infer_instance
instance oPts_storable (c : Dev nD) (b) (f) : BI.Storable (upEmb : UEmb _ 𝕄) (oPts (F := F) c b f) := by unfold oPts; infer_instance
instance kPts_storable (c : Dev nD) (f) : BI.Storable (upEmb : UEmb _ 𝕄) (kPts (F := F) c f) := by unfold kPts; infer_instance
instance vPts_storable (c : Dev nD) (f) : BI.Storable (upEmb : UEmb _ 𝕄) (vPts (F := F) c f) := by unfold vPts; infer_instance
instance kSPts_storable (c : Dev nD) : BI.Storable (upEmb : UEmb _ 𝕄) (kSPts (F := F) m ρ c) := by unfold kSPts; infer_instance
instance vSPts_storable (c : Dev nD) : BI.Storable (upEmb : UEmb _ 𝕄) (vSPts (F := F) m ρ c) := by unfold vSPts; infer_instance

/-- A landing of slot `b` from contents that are the gathered ones there leaves the gathered ones. -/
theorem landq (c : Dev nD) (b : Fin 8) (fd f : (cc0_scratch0 : Ref sig .tc).ty.Contents (Elt F)) :
    qPts c b ((qM b).view.write (Elt F) fd ((qM b).view.read (Elt F) f) Finset.univ) ⊢ (qPts c b f : sProp 𝕄) := by
  unfold qPts
  refine Entails.of_eq (pointsTo_congr fun i hi => ?_)
  rw [View.write_read_eq_piecewise]
  exact Finset.piecewise_eq_of_mem _ _ _ hi
theorem lando (c : Dev nD) (b : Fin 8) (fd f : (cc0_scratch1 : Ref sig .tc).ty.Contents (Elt F)) :
    oPts c b ((oM b).view.write (Elt F) fd ((oM b).view.read (Elt F) f) Finset.univ) ⊢ (oPts c b f : sProp 𝕄) := by
  unfold oPts
  refine Entails.of_eq (pointsTo_congr fun i hi => ?_)
  rw [View.write_read_eq_piecewise]
  exact Finset.piecewise_eq_of_mem _ _ _ hi

/-! ## The schedule -/

/-- The seven landing slots of `n = nxt c`, in both gather buffers, at any contents. -/
def landing (c : Dev nD) (h : Fin 7) : sProp 𝕄 :=
  iprop((∃ f, qPts (nxt c) (blk c h.val) f) ∗ ∃ f, oPts (nxt c) (blk c h.val) f)
def barPay (c : Dev nD) : sProp 𝕄 := bigSep Finset.univ fun h : Fin 7 => landing c h

instance barPay_storable (c : Dev nD) : BI.Storable (upEmb : UEmb _ 𝕄) (barPay (F := F) c) := by
  unfold barPay landing; infer_instance

/-- What the DMA cell of index `n` hands over. -/
def pay (c : Dev nD) (n : ℕ) : sProp 𝕄 :=
  if n < 11 then qPts c (blk c (n - 4)) (GQ m ρ)
  else if n < 18 then qPts c (blk c (n - 11 + 1)) (GQ m ρ)
  else if n < 25 then oPts c (blk c (n - 18)) (GO m ρ)
  else if n < 32 then oPts c (blk c (n - 25 + 1)) (GO m ρ)
  else if n = 32 then iprop(kPts c (GK m ρ c) ∗ kSPts m ρ c)
  else iprop(vPts c (GV m ρ c) ∗ vSPts m ρ c)

instance pay_storable (c : Dev nD) (n : ℕ) : BI.Storable (upEmb : UEmb _ 𝕄) (pay (F := F) m ρ c n) := by
  unfold pay; (repeat' split) <;> infer_instance

def amt (n : ℕ) : ℕ := if n < 18 then NQ else if n < 32 then NO else NK
theorem amt_pos (n : ℕ) : 0 < amt n := by
  unfold amt; split
  · exact NQ_pos
  · split
    · exact NO_pos
    · exact NK_pos

/-- A semaphore's number (its DMA index; nothing for a regular one). -/
def dix : SemLoc sig → ℕ | .reg _ => 0 | .dma q => q.val

abbrev IsBar (g : GSem nD τ sig) : Prop := g.1.2 = .tc ∧ g.2 = .reg barS
abbrev IsXfer (g : GSem nD τ sig) : Prop := g.1.2 = .tc ∧ 4 ≤ dix g.2

def rd : Rounds.Schedule (GSem nD τ sig) Bool 𝕄 where
  duties g r := if r = 0 ∧ IsBar g then Finset.univ else if r = 0 ∧ IsXfer g then {false} else ∅
  unitless _ := False
  amount g _ _ := if g.2 = .reg barS then 1 else amt (dix g.2)
  payload g _ d := if g.2 = .reg barS then (if d then barPay g.1.1 else iprop(emp)) else pay m ρ g.1.1 (dix g.2)
  amount_pos g _ _ _ := by
    by_cases h : g.2 = .reg barS
    · rw [if_pos h]; exact Nat.one_pos
    · rw [if_neg h]; exact amt_pos _

instance rd_payload_storable (g : GSem nD τ sig) (r : ℕ) (d : Bool) :
    BI.Storable (upEmb : UEmb _ 𝕄) ((rd (F := F) m ρ).payload g r d) := by
  show BI.Storable upEmb (if g.2 = .reg barS then (if d then barPay g.1.1 else iprop(emp)) else pay m ρ g.1.1 (dix g.2))
  (repeat' split) <;> infer_instance

section Sched
variable (c : Dev nD) (q : Fin 30)

theorem dma_ne_bar (q : DmaSem sig) : (SemLoc.dma q : SemLoc sig) ≠ .reg barS := fun h => by cases h
theorem dix_ds : dix (.dma (ds q)) = 4 + q.val := rfl

theorem duties_bar : (rd (F := F) m ρ).duties (barCell c) 0 = Finset.univ := by dsimp only [rd]; exact if_pos ⟨rfl, rfl, rfl⟩
theorem duties_d : (rd (F := F) m ρ).duties (dCell c q) 0 = {false} := by
  dsimp only [rd]; rw [if_neg (fun h => dma_ne_bar _ h.2.2)]; exact if_pos ⟨rfl, rfl, by rw [dix_ds]; omega⟩
theorem mem_duties_d : false ∈ (rd (F := F) m ρ).duties (dCell c q) 0 := by rw [duties_d]; exact Finset.mem_singleton_self _
theorem duties_later (g : GSem nD τ sig) : ∀ r, 1 ≤ r → (rd (F := F) m ρ).duties g r = ∅ :=
  fun r hr => by dsimp only [rd]; rw [if_neg fun h => by omega, if_neg fun h => by omega]

theorem amount_bar (d : Bool) : (rd (F := F) m ρ).amount (barCell c) 0 d = 1 := by dsimp only [rd]; exact if_pos rfl
theorem amount_d (d : Bool) : (rd (F := F) m ρ).amount (dCell c q) 0 d = amt (4 + q.val) := by
  dsimp only [rd]; exact if_neg (dma_ne_bar _)

theorem expect_bar : (rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_d : (rd (F := F) m ρ).expect (dCell c q) 0 = amt (4 + q.val) := by
  unfold Schedule.expect Schedule.amountOf; rw [duties_d, Finset.sum_singleton, amount_d]

theorem payload_bar_true : (rd (F := F) m ρ).payload (barCell c) 0 true = barPay c := by dsimp only [rd]; rw [if_pos rfl, if_pos rfl]
theorem payload_bar_false : (rd (F := F) m ρ).payload (barCell c) 0 false = iprop(emp) := by
  dsimp only [rd]; rw [if_pos rfl]; exact if_neg Bool.false_ne_true
theorem payload_d (d : Bool) : (rd (F := F) m ρ).payload (dCell c q) 0 d = pay m ρ c (4 + q.val) := by
  dsimp only [rd]; exact if_neg (dma_ne_bar _)

theorem rest_bar : bigSep ((rd (F := F) m ρ).duties (barCell c) 0 \ ∅) (fun d => (rd (F := F) m ρ).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_d : bigSep ((rd (F := F) m ρ).duties (dCell c q) 0 \ ∅) (fun d => (rd (F := F) m ρ).payload (dCell c q) 0 d) = pay m ρ c (4 + q.val) := by
  rw [Finset.sdiff_empty, duties_d, bigSep_singleton, payload_d]

variable (h : Fin 7)
theorem pay_sq : pay (F := F) m ρ c (4 + (sqI h).val) = qPts c (blk c h.val) (GQ m ρ) := by
  unfold pay; have := h.isLt
  rw [if_pos (by show 4 + h.val < 11; omega), show 4 + (sqI h).val - 4 = h.val by show 4 + h.val - 4 = h.val; omega]
theorem pay_rq : pay (F := F) m ρ c (4 + (rqI h).val) = qPts c (blk c (h.val + 1)) (GQ m ρ) := by
  unfold pay; have := h.isLt
  rw [if_neg (by show ¬ 4 + (7 + h.val) < 11; omega), if_pos (by show 4 + (7 + h.val) < 18; omega),
    show 4 + (rqI h).val - 11 + 1 = h.val + 1 by show 4 + (7 + h.val) - 11 + 1 = h.val + 1; omega]
theorem pay_so : pay (F := F) m ρ c (4 + (soI h).val) = oPts c (blk c h.val) (GO m ρ) := by
  unfold pay; have := h.isLt
  rw [if_neg (by show ¬ 4 + (14 + h.val) < 11; omega), if_neg (by show ¬ 4 + (14 + h.val) < 18; omega),
    if_pos (by show 4 + (14 + h.val) < 25; omega), show 4 + (soI h).val - 18 = h.val by show 4 + (14 + h.val) - 18 = h.val; omega]
theorem pay_ro : pay (F := F) m ρ c (4 + (roI h).val) = oPts c (blk c (h.val + 1)) (GO m ρ) := by
  unfold pay; have := h.isLt
  rw [if_neg (by show ¬ 4 + (21 + h.val) < 11; omega), if_neg (by show ¬ 4 + (21 + h.val) < 18; omega),
    if_neg (by show ¬ 4 + (21 + h.val) < 25; omega), if_pos (by show 4 + (21 + h.val) < 32; omega),
    show 4 + (roI h).val - 25 + 1 = h.val + 1 by show 4 + (21 + h.val) - 25 + 1 = h.val + 1; omega]
theorem pay_k : pay (F := F) m ρ c (4 + kI.val) = iprop(kPts c (GK m ρ c) ∗ kSPts m ρ c) := by
  show pay m ρ c 32 = _; unfold pay; rfl
theorem pay_v : pay (F := F) m ρ c (4 + vI.val) = iprop(vPts c (GV m ρ c) ∗ vSPts m ρ c) := by
  show pay m ρ c 33 = _; unfold pay; rfl

theorem amt_sq : amt (4 + (sqI h).val) = NQ := by unfold amt; rw [if_pos (by show 4 + h.val < 18; omega)]
theorem amt_rq : amt (4 + (rqI h).val) = NQ := by unfold amt; rw [if_pos (by show 4 + (7 + h.val) < 18; omega)]
theorem amt_so : amt (4 + (soI h).val) = NO := by
  unfold amt; rw [if_neg (by show ¬ 4 + (14 + h.val) < 18; omega), if_pos (by show 4 + (14 + h.val) < 32; omega)]
theorem amt_ro : amt (4 + (roI h).val) = NO := by
  unfold amt; rw [if_neg (by show ¬ 4 + (21 + h.val) < 18; omega), if_pos (by show 4 + (21 + h.val) < 32; omega)]
theorem amt_k : amt (4 + kI.val) = NK := by unfold amt; rw [if_neg (by decide), if_neg (by decide)]
theorem amt_v : amt (4 + vI.val) = NK := by unfold amt; rw [if_neg (by decide), if_neg (by decide)]

theorem creditq (b : Fin 8) : (qM b).view.dmaCredit = NQ := rfl
theorem credito (b : Fin 8) : (oM b).view.dmaCredit = NO := rfl
theorem creditv : vM.view.dmaCredit = NK := rfl

end Sched

/-! ## What each core owes at launch; the levels -/

/-- What device `c` owes `nxt c`'s receive cells over the hops of the list, the head hop's two last. -/
def Or (c : Dev nD) : List (Fin 7) → CellTallies nD τ sig Unit
  | [] => 0
  | h :: t => (Or c t + tallyAt (dCell (nxt c) (roI h)) () NO) + tallyAt (dCell (nxt c) (rqI h)) () NQ

abbrev hops : List (Fin 7) := [0, 1, 2, 3, 4, 5, 6]
def O₁ (c : Dev nD) : CellTallies nD τ sig Unit := Or c hops + tallyAt (barCell (nxt c)) () 1
def O₀ (c : Dev nD) : CellTallies nD τ sig Unit := O₁ c + tallyAt (barCell (prv c)) () 1

def L (g : GSem nD τ sig) : Finset Unit := if g.1.2 = .tc then {()} else ∅
/-- The level of a DMA cell by its index: the receive cells of hop `h` at `2 + h`, the rest at 0. -/
def dlv (n : ℕ) : ℕ := if 11 ≤ n ∧ n < 18 then 2 + (n - 11) else if 25 ≤ n ∧ n < 32 then 2 + (n - 25) else 0
/-- Barrier cells at 1, the receive cells of hop `h` at `2 + h`, everything else at 0. -/
def lv (g : GSem nD τ sig) (_ : Unit) : ℕ := if g.2 = .reg barS then 1 else dlv (dix g.2)

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_d (c : Dev nD) (q : DmaSem sig) (u : Unit) : lv ((c : Thread nD τ), .dma q) u = dlv q.val := if_neg (dma_ne_bar _)
theorem dlv_rq (h : Fin 7) : dlv (ds (rqI h)).val = 2 + h.val := by revert h; decide
theorem dlv_ro (h : Fin 7) : dlv (ds (roI h)).val = 2 + h.val := by revert h; decide
theorem dlv_sq (h : Fin 7) : dlv (ds (sqI h)).val = 0 := by revert h; decide
theorem dlv_so (h : Fin 7) : dlv (ds (soI h)).val = 0 := by revert h; decide

theorem pos_of_ne {A : CellTallies nD τ sig Unit} {s g : GSem nD τ sig} {n : ℕ} {u : Unit}
    (hp : 0 < (A + tallyAt s () n) g u) (h : g ≠ s) : 0 < A g u := by
  rw [Pi.add_apply, Finsupp.add_apply, tallyAt_apply, if_neg (fun h' => h h'.1)] at hp
  exact hp

theorem Or_pos {c : Dev nD} {t : List (Fin 7)} {g : GSem nD τ sig} {u : Unit} (hp : 0 < Or c t g u) :
    ∃ h ∈ t, g = dCell (nxt c) (rqI h) ∨ g = dCell (nxt c) (roI h) := by
  induction t with
  | nil => exact absurd hp (Nat.lt_irrefl 0)
  | cons h t ih =>
    unfold Or at hp
    by_cases h1 : g = dCell (nxt c) (rqI h)
    · exact ⟨h, List.mem_cons_self, .inl h1⟩
    by_cases h2 : g = dCell (nxt c) (roI h)
    · exact ⟨h, List.mem_cons_self, .inr h2⟩
    obtain ⟨h', hm, e⟩ := ih (pos_of_ne (pos_of_ne hp h1) h2)
    exact ⟨h', List.mem_cons_of_mem _ hm, e⟩

theorem O₀_pos {c : Dev nD} {g : GSem nD τ sig} {u : Unit} (hp : 0 < O₀ c g u) :
    (∃ h ∈ hops, g = dCell (nxt c) (rqI h) ∨ g = dCell (nxt c) (roI h)) ∨ g = barCell (nxt c) ∨ g = barCell (prv c) := by
  unfold O₀ O₁ at hp
  by_cases h1 : g = barCell (nxt c)
  · exact .inr (.inl h1)
  by_cases h2 : g = barCell (prv c)
  · exact .inr (.inr h2)
  exact .inl (Or_pos (pos_of_ne (pos_of_ne hp h2) h1))

/-- A wait at a level below every receive cell still owed. -/
theorem mayWait_ring (c : Dev nD) (sm : SemLoc sig) (t : List (Fin 7)) (cut : ℕ) (hs : lv ((c : Thread nD τ), sm) () ≤ cut)
    (ht : ∀ h ∈ t, cut < 2 + h.val) : (levAts L lv : sProp 𝕄) ⊢ MayWait (c : Thread nD τ) sm () (Or c t) :=
  MayOwe.of_cut (L := L) (lev := lv) cut (fun p hp => by rw [Finset.mem_singleton.mp hp, L_tc]; exact Finset.mem_singleton_self _)
    (fun g u hg => by obtain ⟨h, _, rfl | rfl⟩ := Or_pos hg <;> exact Finset.mem_singleton_self _)
    (fun p hp => by rw [Finset.mem_singleton.mp hp]; exact hs)
    (fun g u hg => by
      obtain ⟨h, hm, rfl | rfl⟩ := Or_pos hg
      · rw [lv_d, dlv_rq]; exact ht h hm
      · rw [lv_d, dlv_ro]; exact ht h hm)

theorem mayWait_stage (c : Dev nD) (q : DmaSem sig) (hq : dlv q.val = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨h, _, rfl | rfl⟩ | rfl | rfl <;> exact Finset.mem_singleton_self _)
      (fun p hp => by rw [Finset.mem_singleton.mp hp]; show lv ((c : Thread nD τ), .dma q) () ≤ 0; rw [lv_d, hq])
      (fun g u hg => by
        rcases O₀_pos hg with ⟨h, _, rfl | rfl⟩ | rfl | rfl
        · rw [lv_d, dlv_rq]; omega
        · rw [lv_d, dlv_ro]; omega
        · rw [lv_bar]; decide
        · rw [lv_bar]; decide)
  · rw [MayWait_zero]; iintro -; iempintro

end Cert.KernelIdeal.Pf

end
-- ==== Proof.Hop.lean ====
/-
One hop of the ring, at symbolic device and hop number: two addressed transfers to `nxt c` and the four waits, the four cells
closed at the end; and the two local copies.
-/
module

public import proofs.«01_k».proof.Proof.Sched

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

abbrev Key : Type := Dev nD × Option (Fin 30)

/-- Every cell's invariant, and that every cell is at round 0. -/
def records (K : Key → ℕ) : sProp 𝕄 :=
  iprop((bigSep Finset.univ fun ck : Key => cellInv ER (rd m ρ) (K ck) (kcell ck))
    ∗ bigSep Finset.univ fun ck : Key => reached ER (kcell ck) 0)

instance records_persistent (K : Key → ℕ) : BI.Persistent (records m ρ K) := by unfold records; infer_instance

theorem inv_at (K : Key → ℕ) (ck : Key) : (records m ρ K : sProp 𝕄) ⊢ cellInv ER (rd m ρ) (K ck) (kcell ck) := by
  have h : (bigSep Finset.univ fun ck : Key => (cellInv ER (rd m ρ) (K ck) (kcell ck) : sProp 𝕄)) ⊢ cellInv ER (rd m ρ) (K ck) (kcell ck) :=
    bigSep_elim (Finset.mem_univ ck)
  unfold records; iintro ⟨#HI, -⟩
  iapply h; iexact HI
theorem reached_at (K : Key → ℕ) (ck : Key) : (records m ρ K : sProp 𝕄) ⊢ reached ER (kcell ck) 0 := by
  have h : (bigSep Finset.univ fun ck : Key => (reached ER (kcell ck) 0 : sProp 𝕄)) ⊢ reached ER (kcell ck) 0 :=
    bigSep_elim (Finset.mem_univ ck)
  unfold records; iintro ⟨-, #HI⟩
  iapply h; iexact HI

theorem invd (K : Key → ℕ) (c : Dev nD) (q : Fin 30) : (records m ρ K : sProp 𝕄) ⊢ cellInv ER (rd m ρ) (K (c, some q)) (dCell c q) := inv_at m ρ K (c, some q)
theorem reachd (K : Key → ℕ) (c : Dev nD) (q : Fin 30) : (records m ρ K : sProp 𝕄) ⊢ reached ER (dCell c q) 0 := reached_at m ρ K (c, some q)

/-- What a hop consumes: the tokens of the duties it pays, its own cells' positions, its receive cells' credit. -/
def hopRes (c : Dev nD) (h : Fin 7) : sProp 𝕄 :=
  iprop(dutyTok ER (dCell c (sqI h)) 0 false ∗ dutyTok ER (dCell c (soI h)) 0 false
    ∗ dutyTok ER (dCell (nxt c) (rqI h)) 0 false ∗ dutyTok ER (dCell (nxt c) (roI h)) 0 false
    ∗ atPos ER (dCell c (sqI h)) 0 ∅ 0 ∗ atPos ER (dCell c (soI h)) 0 ∅ 0 ∗ atPos ER (dCell c (rqI h)) 0 ∅ 0 ∗ atPos ER (dCell c (roI h)) 0 ∅ 0
    ∗ cred (tallyAt (dCell c (rqI h)) () NQ) ∗ cred (tallyAt (dCell c (roI h)) () NO))

/-- Its four cells closed. -/
def hopSems (c : Dev nD) (h : Fin 7) : sProp 𝕄 :=
  iprop(semVal (dCell c (sqI h)) 0 ∗ semVal (dCell c (soI h)) 0 ∗ semVal (dCell c (rqI h)) 0 ∗ semVal (dCell c (roI h)) 0)

/-- A slot of both gather buffers at the gathered contents. -/
def slot (c : Dev nD) (b : Fin 8) : sProp 𝕄 := iprop(qPts c b (GQ m ρ) ∗ oPts c b (GO m ρ))

section Hop
variable (K : Key → ℕ) (c : Dev nD)

/-- The transfer of the query-weight slot, to `n = nxt c`. -/
theorem send_q (h : Fin 7) (n : Dev nD) (hn : n = nxt c)
    {hsc : (qM (blk c h.val) : Memref sig (Dev.tc n : Thread nD τ).2.kind .vmem S512x256 .bf16).view.ref.isScScratch = false}
    {hsrc : (qM (blk c h.val)).view.WordExact} {hdst : (qM (blk c h.val)).view.WordExact}
    {hsem : DmaTarget.Typed .vmem (.dma (ds (rqI h))) (.remote (Dev.tc n : Thread nD τ) (qM (blk c h.val)) (.dma (ds (sqI h))) hsc)}
    {α : Type} {Q : α → sProp 𝕄} {k : PUnit → Prog (TpuEff nD τ sig (Elt F) Λ₀ .tc) α}
    (fn : (cc0_scratch0 : Ref sig .tc).ty.Contents (Elt F)) (O : CellTallies nD τ sig Unit) (W : Waits sig Unit) :
    iprop(cellInv ER (rd m ρ) (K (c, some (sqI h))) (dCell c (sqI h)) ∗ cellInv ER (rd m ρ) (K (nxt c, some (rqI h))) (dCell (nxt c) (rqI h))
        ∗ qPts c (blk c h.val) (GQ m ρ) ∗ qPts (nxt c) (blk c h.val) fn
        ∗ owes (c : Thread nD τ) (O + tallyAt (dCell (nxt c) (rqI h)) () NQ) W
        ∗ dutyTok ER (dCell c (sqI h)) 0 false ∗ reached ER (dCell c (sqI h)) 0
        ∗ dutyTok ER (dCell (nxt c) (rqI h)) 0 false ∗ reached ER (dCell (nxt c) (rqI h)) 0)
      ⊢ iprop(((cred (tallyAt (dCell c (sqI h)) () NQ) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (qM (blk c h.val)) (.remote (Dev.tc n : Thread nD τ) (qM (blk c h.val)) (.dma (ds (sqI h))) hsc) (.dma (ds (rqI h))) hsrc hdst hsem) k) Q) := by
  subst hn
  have e1 : (qM (blk c h.val)).view.amount (.dma (ds (rqI h))) = NQ := rfl
  have e2 : qPts c (blk c h.val) (GQ m ρ) ⊢ (rd m ρ).payload (dCell c (sqI h)) 0 false := by rw [payload_d, pay_sq]
  have e3 : qPts (nxt c) (blk c h.val) ((qM (blk c h.val)).view.write (Elt F) fn ((qM (blk c h.val)).view.read (Elt F) (GQ m ρ)) Finset.univ)
      ⊢ (rd m ρ).payload (dCell (nxt c) (rqI h)) 0 false := by
    rw [payload_d, pay_rq, blk_nxt]; exact landq (nxt c) (blk c h.val) fn (GQ m ρ)
  have e4 := (amount_d (F := F) m ρ c (sqI h) false).trans (amt_sq h)
  have e5 := (amount_d (F := F) m ρ (nxt c) (rqI h) false).trans (amt_rq h)
  have e6 : τ.routes (c : Thread nD τ) (nxt c : Thread nD τ) = true := by routes
  unfold qPts at *
  exact Rounds.wp_send_pointsTo 𝒱₀ ER (rd m ρ) (c : Thread nD τ) none (κ₁ := K (c, some (sqI h))) (κ₂ := K (nxt c, some (rqI h)))
    (c' := (nxt c : Thread nD τ)) (src := qM (blk c h.val)) (dst := qM (blk c h.val)) (fs := GQ m ρ)
    (r₁ := 0) (r₂ := 0) (d₁ := false) (d₂ := false) (fd := fn)
    (mem_duties_d m ρ c (sqI h)) (mem_duties_d m ρ (nxt c) (rqI h))
    () () NQ e1 e4 e5 O rfl (W := W) e2 e3 (hr := e6)

theorem send_o (h : Fin 7) (n : Dev nD) (hn : n = nxt c)
    {hsc : (oM (blk c h.val) : Memref sig (Dev.tc n : Thread nD τ).2.kind .vmem S256x512 .bf16).view.ref.isScScratch = false}
    {hsrc : (oM (blk c h.val)).view.WordExact} {hdst : (oM (blk c h.val)).view.WordExact}
    {hsem : DmaTarget.Typed .vmem (.dma (ds (roI h))) (.remote (Dev.tc n : Thread nD τ) (oM (blk c h.val)) (.dma (ds (soI h))) hsc)}
    {α : Type} {Q : α → sProp 𝕄} {k : PUnit → Prog (TpuEff nD τ sig (Elt F) Λ₀ .tc) α}
    (fn : (cc0_scratch1 : Ref sig .tc).ty.Contents (Elt F)) (O : CellTallies nD τ sig Unit) (W : Waits sig Unit) :
    iprop(cellInv ER (rd m ρ) (K (c, some (soI h))) (dCell c (soI h)) ∗ cellInv ER (rd m ρ) (K (nxt c, some (roI h))) (dCell (nxt c) (roI h))
        ∗ oPts c (blk c h.val) (GO m ρ) ∗ oPts (nxt c) (blk c h.val) fn
        ∗ owes (c : Thread nD τ) (O + tallyAt (dCell (nxt c) (roI h)) () NO) W
        ∗ dutyTok ER (dCell c (soI h)) 0 false ∗ reached ER (dCell c (soI h)) 0
        ∗ dutyTok ER (dCell (nxt c) (roI h)) 0 false ∗ reached ER (dCell (nxt c) (roI h)) 0)
      ⊢ iprop(((cred (tallyAt (dCell c (soI h)) () NO) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oM (blk c h.val)) (.remote (Dev.tc n : Thread nD τ) (oM (blk c h.val)) (.dma (ds (soI h))) hsc) (.dma (ds (roI h))) hsrc hdst hsem) k) Q) := by
  subst hn
  have e1 : (oM (blk c h.val)).view.amount (.dma (ds (roI h))) = NO := rfl
  have e2 : oPts c (blk c h.val) (GO m ρ) ⊢ (rd m ρ).payload (dCell c (soI h)) 0 false := by rw [payload_d, pay_so]
  have e3 : oPts (nxt c) (blk c h.val) ((oM (blk c h.val)).view.write (Elt F) fn ((oM (blk c h.val)).view.read (Elt F) (GO m ρ)) Finset.univ)
      ⊢ (rd m ρ).payload (dCell (nxt c) (roI h)) 0 false := by
    rw [payload_d, pay_ro, blk_nxt]; exact lando (nxt c) (blk c h.val) fn (GO m ρ)
  have e4 := (amount_d (F := F) m ρ c (soI h) false).trans (amt_so h)
  have e5 := (amount_d (F := F) m ρ (nxt c) (roI h) false).trans (amt_ro h)
  have e6 : τ.routes (c : Thread nD τ) (nxt c : Thread nD τ) = true := by routes
  unfold oPts at *
  exact Rounds.wp_send_pointsTo 𝒱₀ ER (rd m ρ) (c : Thread nD τ) none (κ₁ := K (c, some (soI h))) (κ₂ := K (nxt c, some (roI h)))
    (c' := (nxt c : Thread nD τ)) (src := oM (blk c h.val)) (dst := oM (blk c h.val)) (fs := GO m ρ)
    (r₁ := 0) (r₂ := 0) (d₁ := false) (d₂ := false) (fd := fn)
    (mem_duties_d m ρ c (soI h)) (mem_duties_d m ρ (nxt c) (roI h))
    () () NO e1 e4 e5 O rfl (W := W) e2 e3 (hr := e6)

/-- A wait on one of the own DMA cells for its round's amount, the cell closed: the round's payload and the counter at zero. -/
theorem wait_d (q : Fin 30) {sp sp' : Space} {s : Shape} {e : EltTy} {src : Memref sig .tc sp s e} {dst : Memref sig .tc sp' s e}
    {hsrc : src.view.WordExact} {hdst : dst.view.WordExact}
    {α : Type} {Q : α → sProp 𝕄} {k : PUnit → Prog (TpuEff nD τ sig (Elt F) Λ₀ .tc) α}
    (O : CellTallies nD τ sig Unit) (W : Waits sig Unit) (N : ℕ) (hN : dst.view.dmaCredit = N) (hq : amt (4 + q.val) = N) :
    iprop(records m ρ K ∗ cred (tallyAt (dCell c q) () N) ∗ owes (c : Thread nD τ) O W ∗ MayWait (c : Thread nD τ) (.dma (ds q)) () O
        ∗ atPos ER (dCell c q) 0 ∅ 0)
      ⊢ iprop(((owes (c : Thread nD τ) O (insert (SemLoc.dma (ds q), ()) W) ∗ semVal (dCell c q) 0 ∗ pay m ρ c (4 + q.val))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (ds q) src dst hsrc hdst) k) Q) := by
  iintro ⟨#HR, Hc, HO, Hmw, Hat⟩ Hk
  ihave #HI := (invd m ρ K c q) $$ HR
  subst hN
  iapply (Rounds.wp_wait_rest_token 𝒱₀ ER (rd m ρ) (c : Thread nD τ) none (κ := K (c, some q))
      (wpE_waitDma2_eq 𝒱₀ (c : Thread nD τ) none Set.univ) (Set.mem_univ _) () (O := O) (W := W) (R := 0) (m := 0) (T := ∅)
      (by rw [Nat.zero_add, expect_d, hq])) $$ [Hc HO Hmw Hat]
  · isplitr; · iexact HI
    isplitl [Hc]; · iexact Hc
    isplitl [HO]; · iexact HO
    isplitl [Hmw] <;> iassumption
  iintro ⟨HO, Hat, -, Hpay⟩
  ihave Hp := (Entails.of_eq (rest_d m ρ c q)) $$ Hpay
  imod (Rounds.cell_close ER (rd m ρ) (Set.mem_univ (K (c, some q))) (fun h => h) (R := 0 + 1) (duties_later m ρ (dCell c q))) $$ [Hat] with Hz
  · isplitr; · iexact HI
    iexact Hat
  iapply Hk
  isplitl [HO]; · iexact HO
  isplitl [Hz] <;> iassumption

/-- The hop. -/
theorem wp_hop (h : Fin 7) (t : List (Fin 7)) (ht : ∀ h' ∈ t, h.val < h'.val) {b b' : Fin 8} (hb : b = blk c h.val) (hb' : b' = blk c (h.val + 1))
    {q : Memref sig .tc .vmem S512x256 .bf16} {o : Memref sig .tc .vmem S256x512 .bf16} (hq : q = qM (blk c h.val)) (ho : o = oM (blk c h.val))
    {n1 n2 : Dev nD} (hn1 : n1 = nxt c) (hn2 : n2 = nxt c)
    {s1 s2 s3 s4 : DmaSem sig} (hs1 : s1 = ds (sqI h)) (hs2 : s2 = ds (rqI h)) (hs3 : s3 = ds (soI h)) (hs4 : s4 = ds (roI h))
    {hscq : (q : Memref sig (Dev.tc n1 : Thread nD τ).2.kind .vmem S512x256 .bf16).view.ref.isScScratch = false}
    {hsco : (o : Memref sig (Dev.tc n2 : Thread nD τ).2.kind .vmem S256x512 .bf16).view.ref.isScScratch = false}
    {e1 e2 e3 e4 e5 e6 : q.view.WordExact} {f1 f2 f3 f4 f5 f6 : o.view.WordExact}
    {hsemq : DmaTarget.Typed .vmem (.dma s2) (.remote (Dev.tc n1 : Thread nD τ) q (.dma s1) hscq)}
    {hsemo : DmaTarget.Typed .vmem (.dma s4) (.remote (Dev.tc n2 : Thread nD τ) o (.dma s3) hsco)}
    {α : Type} {Q : α → sProp 𝕄} {k : PUnit → Prog (TpuEff nD τ sig (Elt F) Λ₀ .tc) α} :
    iprop(records m ρ K ∗ levAts L lv ∗ landing c h ∗ hopRes c h ∗ slot m ρ c b ∗ ∃ W, owes (c : Thread nD τ) (Or c (h :: t)) W)
      ⊢ iprop(((slot m ρ c b ∗ slot m ρ c b' ∗ hopSems c h ∗ ∃ W, owes (c : Thread nD τ) (Or c t) W)
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma q (.remote (Dev.tc n1 : Thread nD τ) q (.dma s1) hscq) (.dma s2) e1 e2 hsemq) fun _ =>
              .op (.enqueueDma o (.remote (Dev.tc n2 : Thread nD τ) o (.dma s3) hsco) (.dma s4) f1 f2 hsemo) fun _ =>
              .op (.waitDma2 s1 q q e3 e4) fun _ => .op (.waitDma2 s2 q q e5 e6) fun _ =>
              .op (.waitDma2 s3 o o f3 f4) fun _ => .op (.waitDma2 s4 o o f5 f6) k) Q) := by
  subst hb; subst hb'; subst hq; subst ho; subst hs1; subst hs2; subst hs3; subst hs4
  unfold landing hopRes slot hopSems
  rw [show Or c (h :: t) = (Or c t + tallyAt (dCell (nxt c) (roI h)) () NO) + tallyAt (dCell (nxt c) (rqI h)) () NQ from rfl]
  iintro ⟨#HR, #Hlev, ⟨⟨%fq, HnQ⟩, ⟨%fo, HnO⟩⟩, ⟨Tsq, Tso, Trq, Tro, Asq, Aso, Arq, Aro, Crq, Cro⟩, ⟨HQ, HO'⟩, ⟨%W, Ho⟩⟩ Hk
  iapply (send_q m ρ K c h n1 hn1 fq _ W) $$ [HQ HnQ Ho Tsq Trq]
  · isplitr; · iapply (invd m ρ K c (sqI h)); iexact HR
    isplitr; · iapply (invd m ρ K (nxt c) (rqI h)); iexact HR
    isplitl [HQ]; · iexact HQ
    isplitl [HnQ]; · iexact HnQ
    isplitl [Ho]; · iexact Ho
    isplitl [Tsq]; · iexact Tsq
    isplitr; · iapply (reachd m ρ K c (sqI h)); iexact HR
    isplitl [Trq]; · iexact Trq
    iapply (reachd m ρ K (nxt c) (rqI h)); iexact HR
  iintro ⟨Csq, Ho⟩
  iapply (send_o m ρ K c h n2 hn2 fo _ W) $$ [HO' HnO Ho Tso Tro]
  · isplitr; · iapply (invd m ρ K c (soI h)); iexact HR
    isplitr; · iapply (invd m ρ K (nxt c) (roI h)); iexact HR
    isplitl [HO']; · iexact HO'
    isplitl [HnO]; · iexact HnO
    isplitl [Ho]; · iexact Ho
    isplitl [Tso]; · iexact Tso
    isplitr; · iapply (reachd m ρ K c (soI h)); iexact HR
    isplitl [Tro]; · iexact Tro
    iapply (reachd m ρ K (nxt c) (roI h)); iexact HR
  iintro ⟨Cso, Ho⟩
  iapply (wait_d m ρ K c (sqI h) (src := qM (blk c h.val)) (dst := qM (blk c h.val)) _ _ NQ rfl (amt_sq h)) $$ [Csq Ho Asq]
  · isplitr; · iexact HR
    isplitl [Csq]; · iexact Csq
    isplitl [Ho]; · iexact Ho
    isplitr
    · iapply (mayWait_ring c (.dma (ds (sqI h))) t 0 (by rw [lv_d, dlv_sq]) (fun h' _ => by omega)); iexact Hlev
    iexact Asq
  iintro ⟨Ho, Zsq, Psq⟩
  ihave HQ := (Entails.of_eq (pay_sq m ρ c h)) $$ Psq
  iapply (wait_d m ρ K c (rqI h) (src := qM (blk c h.val)) (dst := qM (blk c h.val)) _ _ NQ rfl (amt_rq h)) $$ [Crq Ho Arq]
  · isplitr; · iexact HR
    isplitl [Crq]; · iexact Crq
    isplitl [Ho]; · iexact Ho
    isplitr
    · iapply (mayWait_ring c (.dma (ds (rqI h))) t (2 + h.val) (by rw [lv_d, dlv_rq]) (fun h' hm => by have := ht h' hm; omega)); iexact Hlev
    iexact Arq
  iintro ⟨Ho, Zrq, Prq⟩
  ihave HQ2 := (Entails.of_eq (pay_rq m ρ c h)) $$ Prq
  iapply (wait_d m ρ K c (soI h) (src := oM (blk c h.val)) (dst := oM (blk c h.val)) _ _ NO rfl (amt_so h)) $$ [Cso Ho Aso]
  · isplitr; · iexact HR
    isplitl [Cso]; · iexact Cso
    isplitl [Ho]; · iexact Ho
    isplitr
    · iapply (mayWait_ring c (.dma (ds (soI h))) t 0 (by rw [lv_d, dlv_so]) (fun h' _ => by omega)); iexact Hlev
    iexact Aso
  iintro ⟨Ho, Zso, Pso⟩
  ihave HO' := (Entails.of_eq (pay_so m ρ c h)) $$ Pso
  iapply (wait_d m ρ K c (roI h) (src := oM (blk c h.val)) (dst := oM (blk c h.val)) _ _ NO rfl (amt_ro h)) $$ [Cro Ho Aro]
  · isplitr; · iexact HR
    isplitl [Cro]; · iexact Cro
    isplitl [Ho]; · iexact Ho
    isplitr
    · iapply (mayWait_ring c (.dma (ds (roI h))) t (2 + h.val) (by rw [lv_d, dlv_ro]) (fun h' hm => by have := ht h' hm; omega)); iexact Hlev
    iexact Aro
  iintro ⟨Ho, Zro, Pro⟩
  ihave HO2 := (Entails.of_eq (pay_ro m ρ c h)) $$ Pro
  iapply Hk
  isplitl [HQ HO']; · isplitl [HQ] <;> iassumption
  isplitl [HQ2 HO2]; · isplitl [HQ2] <;> iassumption
  isplitl [Zsq Zrq Zso Zro]
  · isplitl [Zsq]; · iexact Zsq
    isplitl [Zso]; · iexact Zso
    isplitl [Zrq] <;> iassumption
  iexists _; iexact Ho

/-- The local copies of the device's batches of the keys and of the values. -/
theorem copy_k {src : Memref sig .tc .hbm S2x128x32x64 .f32} {sm : DmaSem sig} (hs : src = kS c) (hsm : sm = ds kI)
    {hsrc : src.view.WordExact} {hdst : kM.view.WordExact} {hsem : DmaTarget.Typed (nD := nD) .hbm (.dma sm) (DmaTarget.here (τ := τ) (p := .tc) kM)}
    {α : Type} {Q : α → sProp 𝕄} {k : PUnit → Prog (TpuEff nD τ sig (Elt F) Λ₀ .tc) α} (fd : (cc0_scratch2 : Ref sig .tc).ty.Contents (Elt F)) :
    iprop(records m ρ K ∗ kSPts m ρ c ∗ kPts c fd ∗ dutyTok ER (dCell c kI) 0 false)
      ⊢ iprop((cred (tallyAt (dCell c kI) () NK) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here kM) (.dma sm) hsrc hdst hsem) k) Q) := by
  subst hs; subst hsm
  iintro ⟨#HR, Hs, Hd, Ht⟩ Hk
  unfold kSPts kPts
  iapply (Rounds.wp_copy_pointsTo 𝒱₀ ER (rd m ρ) (c : Thread nD τ) none (κ := K (c, some kI)) (src := kS c) (dst := kM) (r := 0) (d := false) (fd := fd) (fs := kArg m ρ c)
      (mem_duties_d m ρ c kI) () NK rfl ((amount_d m ρ c kI false).trans amt_k)
      (by rw [payload_d, pay_k]; unfold kPts kSPts
          refine sep_mono_left (Entails.of_eq ?_)
          exact congrArg _ (View.write_whole_univ (Val := Elt F) cc0_scratch2 _ _))) $$ [Hs Hd Ht]
  · isplitr; · iapply (invd m ρ K c kI); iexact HR
    isplitl [Hs]; · iexact Hs
    isplitl [Hd]; · iexact Hd
    isplitl [Ht]; · iexact Ht
    iapply (reachd m ρ K c kI); iexact HR
  iexact Hk

theorem copy_v {src : Memref sig .tc .hbm S2x128x32x64 .f32} {sm : DmaSem sig} (hs : src = vS c) (hsm : sm = ds vI)
    {hsrc : src.view.WordExact} {hdst : vM.view.WordExact} {hsem : DmaTarget.Typed (nD := nD) .hbm (.dma sm) (DmaTarget.here (τ := τ) (p := .tc) vM)}
    {α : Type} {Q : α → sProp 𝕄} {k : PUnit → Prog (TpuEff nD τ sig (Elt F) Λ₀ .tc) α} (fd : (cc0_scratch3 : Ref sig .tc).ty.Contents (Elt F)) :
    iprop(records m ρ K ∗ vSPts m ρ c ∗ vPts c fd ∗ dutyTok ER (dCell c vI) 0 false)
      ⊢ iprop((cred (tallyAt (dCell c vI) () NK) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here vM) (.dma sm) hsrc hdst hsem) k) Q) := by
  subst hs; subst hsm
  iintro ⟨#HR, Hs, Hd, Ht⟩ Hk
  unfold vSPts vPts
  iapply (Rounds.wp_copy_pointsTo 𝒱₀ ER (rd m ρ) (c : Thread nD τ) none (κ := K (c, some vI)) (src := vS c) (dst := vM) (r := 0) (d := false) (fd := fd) (fs := vArg m ρ c)
      (mem_duties_d m ρ c vI) () NK rfl ((amount_d m ρ c vI false).trans amt_v)
      (by rw [payload_d, pay_v]; unfold vPts vSPts
          refine sep_mono_left (Entails.of_eq ?_)
          exact congrArg _ (View.write_whole_univ (Val := Elt F) cc0_scratch3 _ _))) $$ [Hs Hd Ht]
  · isplitr; · iapply (invd m ρ K c vI); iexact HR
    isplitl [Hs]; · iexact Hs
    isplitl [Hd]; · iexact Hd
    isplitl [Ht]; · iexact Ht
    iapply (reachd m ρ K c vI); iexact HR
  iexact Hk

end Hop

end Cert.KernelIdeal.Pf

end
-- ==== Proof.Parts.lean ====
/-
The ring, part by part: each hop of the printed body is two of its parts, and the last of them ends in the waits of the local copies.
-/
module

public import proofs.«01_k».proof.Proof.Hop

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem slotq_eq {off : Fin 3 → ℕ} {b : Fin 8} (h : off = ![b.val, 0, 0]) (inb : ∀ a, off a + S1x512x256.size a ≤ S8x512x256.size a) (hs) :
    (aq.slice (Rect.unit (s := S8x512x256) off S1x512x256.size inb) hs).squeeze S512x256 squeezes_S1x512x256_S512x256 = qM b := by
  subst h; rfl
theorem sloto_eq {off : Fin 3 → ℕ} {b : Fin 8} (h : off = ![b.val, 0, 0]) (inb : ∀ a, off a + S1x256x512.size a ≤ S8x256x512.size a) (hs) :
    (ao.slice (Rect.unit (s := S8x256x512) off S1x256x512.size inb) hs).squeeze S256x512 squeezes_S1x256x512_S256x512 = oM b := by
  subst h; rfl

theorem dev1_eq : ∀ c : Dev nD, (⟨k0_dev1 c, k0_dev1_lt c⟩ : Dev nD) = prv c := by decide +kernel
theorem dev2_eq : ∀ c : Dev nD, (⟨k0_dev2 c, k0_dev2_lt c⟩ : Dev nD) = nxt c := by decide +kernel
theorem dev3_eq : ∀ c : Dev nD, (⟨k0_dev3 c, k0_dev3_lt c⟩ : Dev nD) = nxt c := by decide +kernel
theorem dev4_eq : ∀ c : Dev nD, (⟨k0_dev4 c, k0_dev4_lt c⟩ : Dev nD) = nxt c := by decide +kernel
theorem dev5_eq : ∀ c : Dev nD, (⟨k0_dev5 c, k0_dev5_lt c⟩ : Dev nD) = nxt c := by decide +kernel
theorem dev6_eq : ∀ c : Dev nD, (⟨k0_dev6 c, k0_dev6_lt c⟩ : Dev nD) = nxt c := by decide +kernel
theorem dev7_eq : ∀ c : Dev nD, (⟨k0_dev7 c, k0_dev7_lt c⟩ : Dev nD) = nxt c := by decide +kernel
theorem dev8_eq : ∀ c : Dev nD, (⟨k0_dev8 c, k0_dev8_lt c⟩ : Dev nD) = nxt c := by decide +kernel
theorem dev9_eq : ∀ c : Dev nD, (⟨k0_dev9 c, k0_dev9_lt c⟩ : Dev nD) = nxt c := by decide +kernel
theorem dev10_eq : ∀ c : Dev nD, (⟨k0_dev10 c, k0_dev10_lt c⟩ : Dev nD) = nxt c := by decide +kernel
theorem dev11_eq : ∀ c : Dev nD, (⟨k0_dev11 c, k0_dev11_lt c⟩ : Dev nD) = nxt c := by decide +kernel
theorem dev12_eq : ∀ c : Dev nD, (⟨k0_dev12 c, k0_dev12_lt c⟩ : Dev nD) = nxt c := by decide +kernel
theorem dev13_eq : ∀ c : Dev nD, (⟨k0_dev13 c, k0_dev13_lt c⟩ : Dev nD) = nxt c := by decide +kernel
theorem dev14_eq : ∀ c : Dev nD, (⟨k0_dev14 c, k0_dev14_lt c⟩ : Dev nD) = nxt c := by decide +kernel
theorem dev15_eq : ∀ c : Dev nD, (⟨k0_dev15 c, k0_dev15_lt c⟩ : Dev nD) = nxt c := by decide +kernel
theorem dev16_eq : ∀ c : Dev nD, (⟨k0_dev16 c, k0_dev16_lt c⟩ : Dev nD) = nxt c := by decide +kernel

theorem off2_eq : ∀ c : Dev nD, k0_off2 c = ![(blk c 0).val, 0, 0] := by decide +kernel
theorem off3_eq : ∀ c : Dev nD, k0_off3 c = ![(blk c 0).val, 0, 0] := by decide +kernel

theorem hz3 : (![0, 0, 0] : Fin 3 → Nat) = fun _ => 0 := funext fun a => by fin_cases a <;> rfl
theorem hz2 : (![0, 0] : Fin 2 → Nat) = fun _ => 0 := funext fun a => by fin_cases a <;> rfl

section
variable (K : Key → ℕ) (c : Dev nD)

theorem parts_0 (v13 : BitVec 32) (v56 : BitVec 32) (v57 : BitVec 32) (v62 : BitVec 1) (v2 : BitVec 32) {α : Type} {Q : α → sProp 𝕄} {k : PUnit → Prog (TpuEff nD τ sig (Elt F) Λ₀ .tc) α} :
    iprop(records m ρ K ∗ levAts L lv ∗ landing c 0 ∗ hopRes c 0 ∗ slot m ρ c (blk c 0) ∗ ∃ W, owes (c : Thread nD τ) (Or c [0, 1, 2, 3, 4, 5, 6]) W)
      ⊢ iprop(((slot m ρ c (blk c 0) ∗ slot m ρ c (blk c 1) ∗ hopSems c 0 ∗ ∃ W, owes (c : Thread nD τ) (Or c [1, 2, 3, 4, 5, 6]) W) -∗ wp frame (wpE (defs₀ (F := F)) 𝒱₀ (c : Thread nD τ) none) Set.univ (k ⟨⟩) Q)
          -∗ wp frame (wpE (defs₀ (F := F)) 𝒱₀ (c : Thread nD τ) none) Set.univ (k0_part3 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 c v13 v56 v57 v62 >>= fun _ => k0_part4 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 c v2 v13 >>= k) Q) := by
  rw [k0_part3_eq_skeleton, k0_part4_eq_skeleton]
  unfold k0_part3_skel k0_part4_skel
  simp only [Prog.lift, Prog.bind_op, Prog.bind_ret, Prog.pure_eq_ret]
  exact wp_hop m ρ K c 0 [1, 2, 3, 4, 5, 6] (by decide) (b := blk c 0) (b' := blk c 1) rfl rfl (slotq_eq (show k0_off4 c 0#32 = _ from off4_eq c 0) _ _) (sloto_eq (show k0_off5 c 0#32 = _ from off5_eq c 0) _ _) (dev3_eq c) (dev4_eq c) rfl rfl rfl rfl

theorem parts_1 (v13 : BitVec 32) (v2 : BitVec 32) {α : Type} {Q : α → sProp 𝕄} {k : PUnit → Prog (TpuEff nD τ sig (Elt F) Λ₀ .tc) α} :
    iprop(records m ρ K ∗ levAts L lv ∗ landing c 1 ∗ hopRes c 1 ∗ slot m ρ c (blk c 1) ∗ ∃ W, owes (c : Thread nD τ) (Or c [1, 2, 3, 4, 5, 6]) W)
      ⊢ iprop(((slot m ρ c (blk c 1) ∗ slot m ρ c (blk c 2) ∗ hopSems c 1 ∗ ∃ W, owes (c : Thread nD τ) (Or c [2, 3, 4, 5, 6]) W) -∗ wp frame (wpE (defs₀ (F := F)) 𝒱₀ (c : Thread nD τ) none) Set.univ (k ⟨⟩) Q)
          -∗ wp frame (wpE (defs₀ (F := F)) 𝒱₀ (c : Thread nD τ) none) Set.univ (k0_part5 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 c v13 >>= fun _ => k0_part6 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 c v2 v13 >>= k) Q) := by
  rw [k0_part5_eq_skeleton, k0_part6_eq_skeleton]
  unfold k0_part5_skel k0_part6_skel
  simp only [Prog.lift, Prog.bind_op, Prog.bind_ret, Prog.pure_eq_ret]
  exact wp_hop m ρ K c 1 [2, 3, 4, 5, 6] (by decide) (b := blk c 1) (b' := blk c 2) rfl rfl (slotq_eq (show k0_off4 c 1#32 = _ from off4_eq c 1) _ _) (sloto_eq (show k0_off5 c 1#32 = _ from off5_eq c 1) _ _) (dev5_eq c) (dev6_eq c) rfl rfl rfl rfl

theorem parts_2 (v13 : BitVec 32) (v2 : BitVec 32) {α : Type} {Q : α → sProp 𝕄} {k : BitVec 32 → Prog (TpuEff nD τ sig (Elt F) Λ₀ .tc) α} :
    iprop(records m ρ K ∗ levAts L lv ∗ landing c 2 ∗ hopRes c 2 ∗ slot m ρ c (blk c 2) ∗ ∃ W, owes (c : Thread nD τ) (Or c [2, 3, 4, 5, 6]) W)
      ⊢ iprop((∀ w : BitVec 32, (slot m ρ c (blk c 2) ∗ slot m ρ c (blk c 3) ∗ hopSems c 2 ∗ ∃ W, owes (c : Thread nD τ) (Or c [3, 4, 5, 6]) W) -∗ wp frame (wpE (defs₀ (F := F)) 𝒱₀ (c : Thread nD τ) none) Set.univ (k w) Q)
          -∗ wp frame (wpE (defs₀ (F := F)) 𝒱₀ (c : Thread nD τ) none) Set.univ (k0_part7 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 c v13 >>= fun _ => k0_part8 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 c v2 v13 >>= k) Q) := by
  rw [k0_part7_eq_skeleton, k0_part8_eq_skeleton]
  unfold k0_part7_skel k0_part8_skel
  simp only [Prog.lift, Prog.bind_op, Prog.bind_ret, Prog.pure_eq_ret]
  iintro H Hk
  iapply (wp_hop m ρ K c 2 [3, 4, 5, 6] (by decide) (b := blk c 2) (b' := blk c 3) rfl rfl (slotq_eq (show k0_off4 c 2#32 = _ from off4_eq c 2) _ _) (sloto_eq (show k0_off5 c 2#32 = _ from off5_eq c 2) _ _) (dev7_eq c) (dev8_eq c) rfl rfl rfl rfl) $$ H
  iapply Hk

theorem parts_3 (v13 : BitVec 32) (v242 : BitVec 32) (v2 : BitVec 32) {α : Type} {Q : α → sProp 𝕄} {k : PUnit → Prog (TpuEff nD τ sig (Elt F) Λ₀ .tc) α} :
    iprop(records m ρ K ∗ levAts L lv ∗ landing c 3 ∗ hopRes c 3 ∗ slot m ρ c (blk c 3) ∗ ∃ W, owes (c : Thread nD τ) (Or c [3, 4, 5, 6]) W)
      ⊢ iprop(((slot m ρ c (blk c 3) ∗ slot m ρ c (blk c 4) ∗ hopSems c 3 ∗ ∃ W, owes (c : Thread nD τ) (Or c [4, 5, 6]) W) -∗ wp frame (wpE (defs₀ (F := F)) 𝒱₀ (c : Thread nD τ) none) Set.univ (k ⟨⟩) Q)
          -∗ wp frame (wpE (defs₀ (F := F)) 𝒱₀ (c : Thread nD τ) none) Set.univ (k0_part9 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 c v13 v242 >>= fun _ => k0_part10 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 c v2 v13 >>= k) Q) := by
  rw [k0_part9_eq_skeleton, k0_part10_eq_skeleton]
  unfold k0_part9_skel k0_part10_skel
  simp only [Prog.lift, Prog.bind_op, Prog.bind_ret, Prog.pure_eq_ret]
  exact wp_hop m ρ K c 3 [4, 5, 6] (by decide) (b := blk c 3) (b' := blk c 4) rfl rfl (slotq_eq (show k0_off4 c 3#32 = _ from off4_eq c 3) _ _) (sloto_eq (show k0_off5 c 3#32 = _ from off5_eq c 3) _ _) (dev9_eq c) (dev10_eq c) rfl rfl rfl rfl

theorem parts_4 (v13 : BitVec 32) (v2 : BitVec 32) {α : Type} {Q : α → sProp 𝕄} {k : PUnit → Prog (TpuEff nD τ sig (Elt F) Λ₀ .tc) α} :
    iprop(records m ρ K ∗ levAts L lv ∗ landing c 4 ∗ hopRes c 4 ∗ slot m ρ c (blk c 4) ∗ ∃ W, owes (c : Thread nD τ) (Or c [4, 5, 6]) W)
      ⊢ iprop(((slot m ρ c (blk c 4) ∗ slot m ρ c (blk c 5) ∗ hopSems c 4 ∗ ∃ W, owes (c : Thread nD τ) (Or c [5, 6]) W) -∗ wp frame (wpE (defs₀ (F := F)) 𝒱₀ (c : Thread nD τ) none) Set.univ (k ⟨⟩) Q)
          -∗ wp frame (wpE (defs₀ (F := F)) 𝒱₀ (c : Thread nD τ) none) Set.univ (k0_part11 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 c v13 >>= fun _ => k0_part12 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 c v2 v13 >>= k) Q) := by
  rw [k0_part11_eq_skeleton, k0_part12_eq_skeleton]
  unfold k0_part11_skel k0_part12_skel
  simp only [Prog.lift, Prog.bind_op, Prog.bind_ret, Prog.pure_eq_ret]
  exact wp_hop m ρ K c 4 [5, 6] (by decide) (b := blk c 4) (b' := blk c 5) rfl rfl (slotq_eq (show k0_off4 c 4#32 = _ from off4_eq c 4) _ _) (sloto_eq (show k0_off5 c 4#32 = _ from off5_eq c 4) _ _) (dev11_eq c) (dev12_eq c) rfl rfl rfl rfl

theorem parts_5 (v13 : BitVec 32) (v2 : BitVec 32) {α : Type} {Q : α → sProp 𝕄} {k : PUnit → Prog (TpuEff nD τ sig (Elt F) Λ₀ .tc) α} :
    iprop(records m ρ K ∗ levAts L lv ∗ landing c 5 ∗ hopRes c 5 ∗ slot m ρ c (blk c 5) ∗ ∃ W, owes (c : Thread nD τ) (Or c [5, 6]) W)
      ⊢ iprop(((slot m ρ c (blk c 5) ∗ slot m ρ c (blk c 6) ∗ hopSems c 5 ∗ ∃ W, owes (c : Thread nD τ) (Or c [6]) W) -∗ wp frame (wpE (defs₀ (F := F)) 𝒱₀ (c : Thread nD τ) none) Set.univ (k ⟨⟩) Q)
          -∗ wp frame (wpE (defs₀ (F := F)) 𝒱₀ (c : Thread nD τ) none) Set.univ (k0_part13 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 c v13 >>= fun _ => k0_part14 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 c v2 v13 >>= k) Q) := by
  rw [k0_part13_eq_skeleton, k0_part14_eq_skeleton]
  unfold k0_part13_skel k0_part14_skel
  simp only [Prog.lift, Prog.bind_op, Prog.bind_ret, Prog.pure_eq_ret]
  exact wp_hop m ρ K c 5 [6] (by decide) (b := blk c 5) (b' := blk c 6) rfl rfl (slotq_eq (show k0_off4 c 5#32 = _ from off4_eq c 5) _ _) (sloto_eq (show k0_off5 c 5#32 = _ from off5_eq c 5) _ _) (dev13_eq c) (dev14_eq c) rfl rfl rfl rfl

theorem parts_6 (v13 : BitVec 32) {α : Type} {Q : α → sProp 𝕄} {k : _ → Prog (TpuEff nD τ sig (Elt F) Λ₀ .tc) α} :
    iprop((records m ρ K ∗ levAts L lv ∗ landing c 6 ∗ hopRes c 6 ∗ slot m ρ c (blk c 6) ∗ ∃ W, owes (c : Thread nD τ) (Or c [6]) W)
        ∗ cred (tallyAt (dCell c kI) () NK) ∗ cred (tallyAt (dCell c vI) () NK) ∗ atPos ER (dCell c kI) 0 ∅ 0 ∗ atPos ER (dCell c vI) 0 ∅ 0
        ∗ ((c : Thread nD τ).loc cc0_stg0_0 ↦{fullShare} xstg m ρ c))
      ⊢ iprop((((slot m ρ c (blk c 6) ∗ slot m ρ c (blk c 7) ∗ hopSems c 6 ∗ ∃ W, owes (c : Thread nD τ) (0 : CellTallies nD τ sig Unit) W)
          ∗ (kPts c (GK m ρ c) ∗ kSPts m ρ c) ∗ (vPts c (GV m ρ c) ∗ vSPts m ρ c) ∗ semVal (dCell c kI) 0 ∗ semVal (dCell c vI) 0
          ∗ ((c : Thread nD τ).loc cc0_stg0_0 ↦{fullShare} xstg m ρ c))
            -∗ wp frame (wpE (defs₀ (F := F)) 𝒱₀ (c : Thread nD τ) none) Set.univ (k ⟨k0_pay4 (xstg m ρ c), iota .tc S256x256 32 [0] iota_S256x256_d0_w32, iota .tc S256x256 32 [1] iota_S256x256_d1_w32,
                Scalar.select (Scalar.cmpi .eq 128#32 0#32) 1#32 128#32⟩) Q)
          -∗ wp frame (wpE (defs₀ (F := F)) 𝒱₀ (c : Thread nD τ) none) Set.univ (k0_part15 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 c v13 >>= fun _ => k0_part16 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 c v13 >>= k) Q) := by
  rw [k0_part15_eq_skeleton, k0_part16_eq_skeleton]
  unfold k0_part15_skel k0_part16_skel
  simp only [Prog.lift, Prog.bind_op, Prog.bind_ret, Prog.pure_eq_ret]
  iintro ⟨⟨#HR, H⟩, HcK, HcV, HaK, HaV, Hx⟩ Hk
  iapply (wp_hop m ρ K c 6 [] (by decide) (b := blk c 6) (b' := blk c 7) rfl rfl (slotq_eq (show k0_off4 c 6#32 = _ from off4_eq c 6) _ _) (sloto_eq (show k0_off5 c 6#32 = _ from off5_eq c 6) _ _) (dev15_eq c) (dev16_eq c) rfl rfl rfl rfl) $$ [H]
  · isplitr; · iexact HR
    iexact H
  iintro ⟨H1, H2, H3, ⟨%W, Ho⟩⟩
  rw [show Or c [] = 0 from rfl]
  iapply (wait_d m ρ K c kI (src := kS c) (dst := kM) _ _ NK rfl amt_k) $$ [HcK Ho HaK]
  · isplitr; · iexact HR
    isplitl [HcK]; · iexact HcK
    isplitl [Ho]; · iexact Ho
    isplitr; · rw [MayWait_zero]; iempintro
    iexact HaK
  iintro ⟨Ho, ZK, PK⟩
  iapply (wait_d m ρ K c vI (src := vS c) (dst := vM) _ _ NK rfl amt_v) $$ [HcV Ho HaV]
  · isplitr; · iexact HR
    isplitl [HcV]; · iexact HcV
    isplitl [Ho]; · iexact Ho
    isplitr; · rw [MayWait_zero]; iempintro
    iexact HaV
  iintro ⟨Ho, ZV, PV⟩
  ihave PK := (Entails.of_eq (pay_k m ρ c)) $$ PK
  ihave PV := (Entails.of_eq (pay_v m ρ c)) $$ PV
  iapply (wp_load 𝒱₀ (c : Thread nD τ) none Set.univ (m := xM) (Finset.subset_univ _)) $$ Hx
  iintro Hx
  rw [show (xM : Memref sig .tc .vmem S2x128x512 .f32).view.readAt (Elt F) (Rect.unit (s := S2x128x512) ![0, 0, 0] S2x128x512.size inb_S2x128x512_S2x128x512_0_0_0).toLoadRect (xstg m ρ c) = xstg m ρ c
    from Memref.readAt_unit_zero (Elt F) cc0_stg0_0 hz3 _ _]
  iapply Hk
  isplitl [H1 H2 H3 Ho]
  · isplitl [H1]; · iexact H1
    isplitl [H2]; · iexact H2
    isplitl [H3]; · iexact H3
    iexists _; iexact Ho
  isplitl [PK]; · iexact PK
  isplitl [PV]; · iexact PV
  isplitl [ZK]; · iexact ZK
  isplitl [ZV] <;> iassumption

end

end Cert.KernelIdeal.Pf

end
-- ==== Proof.Compute.lean ====
/-
The arithmetic after the ring: what the body stores, as one function of the tokens, the gathered weights and the two staged
blocks of keys and values.
-/
module

public import proofs.«01_k».proof.Proof.Hop

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- Four 64-column heads of the block's queries, cut out and narrowed. -/
def hd0 (w : FVec F S256x256 .f32) : FVec F S256x64 .bf16 := truncf .bf16 (extractStridedSlice S256x64 ![0, 0] w slices_S256x256_o0_0_S256x64) bitsLt_bf16_f32
def hd1 (w : FVec F S256x256 .f32) : FVec F S256x64 .bf16 := truncf .bf16 (extractStridedSlice S256x64 ![0, 64] w slices_S256x256_o0_64_S256x64) bitsLt_bf16_f32
def hd2 (w : FVec F S256x256 .f32) : FVec F S256x64 .bf16 := truncf .bf16 (extractStridedSlice S256x64 ![0, 128] w slices_S256x256_o0_128_S256x64) bitsLt_bf16_f32
def hd3 (w : FVec F S256x256 .f32) : FVec F S256x64 .bf16 := truncf .bf16 (extractStridedSlice S256x64 ![0, 192] w slices_S256x256_o0_192_S256x64) bitsLt_bf16_f32

/-- One head's attention: the 256 by 256 scores, masked, their softmax by rows, times the values. -/
def att (mk : IVec S256x256 1) (a : FVec F S256x64 .bf16) (k v : Vec F S2x128x1x64 .f32) : FVec F S256x64 .f32 :=
  k0_pay23 mk a (k0_pay21 k) (k0_pay22 v) (constant S256x256 .f32 0x00000000#32)

/-- The four heads' contexts of one block beside each other, from the block's queries. -/
def blkCtx (mk : IVec S256x256 1) (w : FVec F S256x256 .f32) (k0 v0 k1 v1 k2 v2 k3 v3 : Vec F S2x128x1x64 .f32) : FVec F S256x256 .f32 :=
  concatenate S256x256 1 [⟨S256x64, att mk (hd0 w) k0 v0⟩, ⟨S256x64, att mk (hd1 w) k1 v1⟩, ⟨S256x64, att mk (hd2 w) k2 v2⟩, ⟨S256x64, att mk (hd3 w) k3 v3⟩] concatenates_S256x64_S256x64_S256x64_S256x64_S256x256_d1

/-- One block's term added to the running sum. -/
def blkStep (mk : IVec S256x256 1) (x : FVec F S256x512 .bf16) (acc : FVec F S256x512 .f32) (q : Vec F S1x512x256 .bf16)
    (k0 v0 k1 v1 k2 v2 k3 v3 : Vec F S2x128x1x64 .f32) (o : Vec F S1x256x512 .bf16) : FVec F S256x512 .f32 :=
  addf acc (matmul dot_S256x256_S256x512_S256x512_1_0_0_1_n_n none
    (truncf .bf16 (blkCtx mk (k0_pay19 x q) k0 v0 k1 v1 k2 v2 k3 v3) bitsLt_bf16_f32)
    (shapeCast S256x512 o shapeCasts_S1x256x512_S256x512) (constant S256x512 .f32 0x00000000#32))

/-- The mask, as the body computes it from the two iotas. -/
def maskOf (v477 v478 : IVec S256x256 32) (v480 : BitVec 32) : IVec S256x256 1 :=
  k0_pay17 (k0_pay5 v477 v480)
    (k0_pay12 v477 v478 128#32 (k0_pay10 v477) (k0_pay11 v477) (Scalar.subi (Scalar.extui (Scalar.cmpi .sgt 128#32 0#32)) (Scalar.extui (Scalar.cmpi .slt 128#32 0#32))))
    (k0_pay13 (k0_pay5 v477 v480) (k0_pay9 (Scalar.select (Scalar.cmpi .eq 128#32 0#32) 1#32 128#32) (k0_pay6 v478) (k0_pay7 v478) k0_pay8))
    (Scalar.select (Scalar.cmpi .eq 4#32 0#32) 1#32 4#32)
    (k0_pay14 (k0_pay9 (Scalar.select (Scalar.cmpi .eq 128#32 0#32) 1#32 128#32) (k0_pay6 v478) (k0_pay7 v478) k0_pay8))
    (k0_pay15 (k0_pay9 (Scalar.select (Scalar.cmpi .eq 128#32 0#32) 1#32 128#32) (k0_pay6 v478) (k0_pay7 v478) k0_pay8))
    (k0_pay16 (k0_pay9 (Scalar.select (Scalar.cmpi .eq 128#32 0#32) 1#32 128#32) (k0_pay6 v478) (k0_pay7 v478) k0_pay8))
    (Scalar.cmpi .slt (Scalar.select (Scalar.cmpi .eq 4#32 0#32) 1#32 4#32) 0#32)

/-- A load of one block of weights, and of one head of the keys or values. -/
def LQ (f : (cc0_scratch0 : Ref sig .tc).ty.Contents (Elt F)) (b : Fin 8) : Vec F S1x512x256 .bf16 := aq.view.readAt (Elt F) (rq8 b).toLoadRect f
def LO (f : (cc0_scratch1 : Ref sig .tc).ty.Contents (Elt F)) (b : Fin 8) : Vec F S1x256x512 .bf16 := ao.view.readAt (Elt F) (ro8 b).toLoadRect f

theorem inbk (j : Fin 32) : ∀ a, (![0, 0, j.val, 0] : Fin 4 → ℕ) a + S2x128x1x64.size a ≤ S2x128x32x64.size a := by
  intro a; fin_cases a <;> simp [S2x128x1x64, S2x128x32x64] <;> omega
abbrev rk (j : Fin 32) : Rect S2x128x32x64 := Rect.unit (s := S2x128x32x64) ![0, 0, j.val, 0] S2x128x1x64.size (inbk j)
def LK (f : (cc0_scratch2 : Ref sig .tc).ty.Contents (Elt F)) (j : Fin 32) : Vec F S2x128x1x64 .f32 := kM.view.readAt (Elt F) (rk j).toLoadRect f
def LV (f : (cc0_scratch3 : Ref sig .tc).ty.Contents (Elt F)) (j : Fin 32) : Vec F S2x128x1x64 .f32 := vM.view.readAt (Elt F) (rk j).toLoadRect f

section

variable (mk : IVec S256x256 1) (x : FVec F S256x512 .bf16)
variable (fq : (cc0_scratch0 : Ref sig .tc).ty.Contents (Elt F)) (fo : (cc0_scratch1 : Ref sig .tc).ty.Contents (Elt F))
variable (fk : (cc0_scratch2 : Ref sig .tc).ty.Contents (Elt F)) (fv : (cc0_scratch3 : Ref sig .tc).ty.Contents (Elt F))

/-- Block `b`'s step, its operands as loaded. -/
def stepAt (b : Fin 8) (j0 j1 j2 j3 : Fin 32) (acc : FVec F S256x512 .f32) : FVec F S256x512 .f32 :=
  blkStep mk x acc (LQ fq b) (LK fk j0) (LV fv j0) (LK fk j1) (LV fv j1) (LK fk j2) (LV fv j2) (LK fk j3) (LV fv j3) (LO fo b)

/-- The running sum after all eight blocks. -/
def accAll : FVec F S256x512 .f32 :=
  stepAt mk x fq fo fk fv 7 28 29 30 31 (stepAt mk x fq fo fk fv 6 24 25 26 27 (stepAt mk x fq fo fk fv 5 20 21 22 23
    (stepAt mk x fq fo fk fv 4 16 17 18 19 (stepAt mk x fq fo fk fv 3 12 13 14 15 (stepAt mk x fq fo fk fv 2 8 9 10 11
      (stepAt mk x fq fo fk fv 1 4 5 6 7 (stepAt mk x fq fo fk fv 0 0 1 2 3 (k0_pay18 (F := F)))))))))

/-- What the body stores. -/
def outOf : FVec F S2x128x512 .f32 := shapeCast S2x128x512 (accAll mk x fq fo fk fv) shapeCasts_S256x512_S2x128x512

end

/-- The buffers the arithmetic reads, whole. -/
def bufs (c : Dev nD) (fq : (cc0_scratch0 : Ref sig .tc).ty.Contents (Elt F)) (fo : (cc0_scratch1 : Ref sig .tc).ty.Contents (Elt F))
    (fk : (cc0_scratch2 : Ref sig .tc).ty.Contents (Elt F)) (fv : (cc0_scratch3 : Ref sig .tc).ty.Contents (Elt F)) : sProp 𝕄 :=
  iprop(((c : Thread nD τ).loc cc0_scratch0 ↦{fullShare} fq) ∗ ((c : Thread nD τ).loc cc0_scratch1 ↦{fullShare} fo)
    ∗ ((c : Thread nD τ).loc cc0_scratch2 ↦{fullShare} fk) ∗ ((c : Thread nD τ).loc cc0_scratch3 ↦{fullShare} fv))

section

variable (c : Dev nD) (fq : (cc0_scratch0 : Ref sig .tc).ty.Contents (Elt F)) (fo : (cc0_scratch1 : Ref sig .tc).ty.Contents (Elt F))
variable (fk : (cc0_scratch2 : Ref sig .tc).ty.Contents (Elt F)) (fv : (cc0_scratch3 : Ref sig .tc).ty.Contents (Elt F))

abbrev wpc (T : Prog (TpuEff nD τ sig (Elt F) Λ₀ .tc) PUnit) (Q : PUnit → sProp 𝕄) : sProp 𝕄 :=
  wp frame (wpE (defs₀ (F := F)) 𝒱₀ (c : Thread nD τ) none) Set.univ T Q

/-- `T` reads these buffers and stores `w` over the whole output window, and does nothing else. -/
def Stores (T : Prog (TpuEff nD τ sig (Elt F) Λ₀ .tc) PUnit) (w : Vec F S2x128x512 .f32) : Prop :=
  ∀ (Q : PUnit → sProp 𝕄) (g : Buf (Elt F) ((c : Thread nD τ).loc cc0_stg3_0)),
    iprop(bufs c fq fo fk fv ∗ ((c : Thread nD τ).loc cc0_stg3_0 ↦{fullShare} g))
      ⊢ iprop((bufs c fq fo fk fv ∗ ((c : Thread nD τ).loc cc0_stg3_0 ↦{fullShare} (w : Buf (Elt F) ((c : Thread nD τ).loc cc0_stg3_0))) -∗ Q ⟨⟩) -∗ wpc c T Q)

variable {c fq fo fk fv}

theorem Stores.load_q {r : LoadRect _} {h : (aq).view.LoadsAt r} {k : (r.shape.Idx → Elt F _) → Prog (TpuEff nD τ sig (Elt F) Λ₀ .tc) PUnit} {w : Vec F S2x128x512 .f32}
    (H : Stores c fq fo fk fv (k ((aq).view.readAt (Elt F) r fq)) w) : Stores c fq fo fk fv (.op (.load aq r h) k) w := by
  intro Q g
  unfold bufs wpc
  iintro ⟨⟨Hq, Ho, Hk, Hv⟩, Hg⟩ Hcont
  iapply (wp_load 𝒱₀ (c : Thread nD τ) none Set.univ (m := aq) (Finset.subset_univ _)) $$ Hq
  iintro Hq
  have h := H Q g
  unfold bufs wpc at h
  iapply h $$ [Hq Ho Hk Hv Hg]
  · iframe
  · iexact Hcont

theorem Stores.load_o {r : LoadRect _} {h : (ao).view.LoadsAt r} {k : (r.shape.Idx → Elt F _) → Prog (TpuEff nD τ sig (Elt F) Λ₀ .tc) PUnit} {w : Vec F S2x128x512 .f32}
    (H : Stores c fq fo fk fv (k ((ao).view.readAt (Elt F) r fo)) w) : Stores c fq fo fk fv (.op (.load ao r h) k) w := by
  intro Q g
  unfold bufs wpc
  iintro ⟨⟨Hq, Ho, Hk, Hv⟩, Hg⟩ Hcont
  iapply (wp_load 𝒱₀ (c : Thread nD τ) none Set.univ (m := ao) (Finset.subset_univ _)) $$ Ho
  iintro Ho
  have h := H Q g
  unfold bufs wpc at h
  iapply h $$ [Hq Ho Hk Hv Hg]
  · iframe
  · iexact Hcont

theorem Stores.load_k {r : LoadRect _} {h : (kM).view.LoadsAt r} {k : (r.shape.Idx → Elt F _) → Prog (TpuEff nD τ sig (Elt F) Λ₀ .tc) PUnit} {w : Vec F S2x128x512 .f32}
    (H : Stores c fq fo fk fv (k ((kM).view.readAt (Elt F) r fk)) w) : Stores c fq fo fk fv (.op (.load kM r h) k) w := by
  intro Q g
  unfold bufs wpc
  iintro ⟨⟨Hq, Ho, Hk, Hv⟩, Hg⟩ Hcont
  iapply (wp_load 𝒱₀ (c : Thread nD τ) none Set.univ (m := kM) (Finset.subset_univ _)) $$ Hk
  iintro Hk
  have h := H Q g
  unfold bufs wpc at h
  iapply h $$ [Hq Ho Hk Hv Hg]
  · iframe
  · iexact Hcont

theorem Stores.load_v {r : LoadRect _} {h : (vM).view.LoadsAt r} {k : (r.shape.Idx → Elt F _) → Prog (TpuEff nD τ sig (Elt F) Λ₀ .tc) PUnit} {w : Vec F S2x128x512 .f32}
    (H : Stores c fq fo fk fv (k ((vM).view.readAt (Elt F) r fv)) w) : Stores c fq fo fk fv (.op (.load vM r h) k) w := by
  intro Q g
  unfold bufs wpc
  iintro ⟨⟨Hq, Ho, Hk, Hv⟩, Hg⟩ Hcont
  iapply (wp_load 𝒱₀ (c : Thread nD τ) none Set.univ (m := vM) (Finset.subset_univ _)) $$ Hv
  iintro Hv
  have h := H Q g
  unfold bufs wpc at h
  iapply h $$ [Hq Ho Hk Hv Hg]
  · iframe
  · iexact Hcont

theorem Stores.last {h1 h2 h3} {w w' : Vec F S2x128x512 .f32} (hw : w' = w) :
    Stores c fq fo fk fv (.op (.load outM (Rect.unit (s := S2x128x512) ![0, 0, 0] S2x128x512.size inb_S2x128x512_S2x128x512_0_0_0).toLoadRect h1) fun _ =>
      .op (.store outM (Rect.unit (s := S2x128x512) ![0, 0, 0] S2x128x512.size inb_S2x128x512_S2x128x512_0_0_0) w' Finset.univ h2 h3) fun _ => .ret ⟨⟩) w := by
  subst hw
  intro Q g
  unfold wpc
  iintro ⟨Hb, Hg⟩ Hcont
  iapply (wp_load 𝒱₀ (c : Thread nD τ) none Set.univ (m := outM) (Finset.subset_univ _)) $$ Hg
  iintro Hg
  iapply (wp_store 𝒱₀ (c : Thread nD τ) none Set.univ (m := outM) (r := Rect.unit (s := S2x128x512) ![0, 0, 0] S2x128x512.size inb_S2x128x512_S2x128x512_0_0_0)
    (Mk := Finset.univ) (Finset.subset_univ _)) $$ Hg
  iintro Hg
  have hw : View.write (Elt F) (outM.access (Rect.unit (s := S2x128x512) ![0, 0, 0] S2x128x512.size inb_S2x128x512_S2x128x512_0_0_0)) g w' Finset.univ = w' :=
    Memref.write_access_unit_zero_univ (Elt F) cc0_stg3_0 (funext fun a => by fin_cases a <;> rfl) _ g w'
  rw [hw, wp_ret]
  imodintro
  iapply Hcont
  iframe

/-- `T` only reads these buffers and returns `a`. -/
def Runs (c : Dev nD) (fq : (cc0_scratch0 : Ref sig .tc).ty.Contents (Elt F)) (fo : (cc0_scratch1 : Ref sig .tc).ty.Contents (Elt F))
    (fk : (cc0_scratch2 : Ref sig .tc).ty.Contents (Elt F)) (fv : (cc0_scratch3 : Ref sig .tc).ty.Contents (Elt F))
    {α : Type} (T : Prog (TpuEff nD τ sig (Elt F) Λ₀ .tc) α) (a : α) : Prop :=
  ∀ (k : α → Prog (TpuEff nD τ sig (Elt F) Λ₀ .tc) PUnit) (w : Vec F S2x128x512 .f32), Stores c fq fo fk fv (k a) w → Stores c fq fo fk fv (T >>= k) w

theorem runs_part17 (v477 : IVec S256x256 32) (v478 : IVec S256x256 32) (v480 : BitVec 32) :
    Runs c fq fo fk fv (k0_part17 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v477 v478 v480) ⟨k0_pay5 v477 v480, (Scalar.select (Scalar.cmpi .eq 128#32 0#32) 1#32 128#32), k0_pay6 v478, k0_pay7 v478, k0_pay8⟩ := by
  intro k w H
  rw [k0_part17_eq_skeleton]
  unfold k0_part17_skel
  simp only [Prog.lift, Prog.bind_op, Prog.bind_ret, Prog.pure_eq_ret]
  exact H

theorem runs_part18 (v477 : IVec S256x256 32) (v520 : BitVec 32) (v522 : IVec S256x256 32) (v524 : IVec S256x256 1) (v525 : IVec S256x256 32) :
    Runs c fq fo fk fv (k0_part18 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v477 v520 v522 v524 v525) ⟨k0_pay9 v520 v522 v524 v525, 128#32, k0_pay10 v477, k0_pay11 v477, (Scalar.subi (Scalar.extui (Scalar.cmpi .sgt 128#32 0#32)) (Scalar.extui (Scalar.cmpi .slt 128#32 0#32)))⟩ := by
  intro k w H
  rw [k0_part18_eq_skeleton]
  unfold k0_part18_skel
  simp only [Prog.lift, Prog.bind_op, Prog.bind_ret, Prog.pure_eq_ret]
  exact H

theorem runs_part19 (v477 : IVec S256x256 32) (v478 : IVec S256x256 32) (v518 : IVec S256x256 32) (v558 : IVec S256x256 32) (c128_i32_438 : BitVec 32) (v560 : IVec S256x256 32) (v567 : IVec S256x256 32) (v572 : BitVec 32) :
    Runs c fq fo fk fv (k0_part19 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v477 v478 v518 v558 c128_i32_438 v560 v567 v572) ⟨k0_pay12 v477 v478 c128_i32_438 v560 v567 v572, k0_pay13 v518 v558, (Scalar.select (Scalar.cmpi .eq 4#32 0#32) 1#32 4#32), k0_pay14 v558, k0_pay15 v558, k0_pay16 v558, (Scalar.cmpi .slt (Scalar.select (Scalar.cmpi .eq 4#32 0#32) 1#32 4#32) 0#32)⟩ := by
  intro k w H
  rw [k0_part19_eq_skeleton]
  unfold k0_part19_skel
  simp only [Prog.lift, Prog.bind_op, Prog.bind_ret, Prog.pure_eq_ret]
  exact H

theorem runs_part20 (v476 : FVec F S256x512 .bf16) (v518 : IVec S256x256 32) (v607 : IVec S256x256 1) (v608 : IVec S256x256 1) (v610 : BitVec 32) (v612 : IVec S256x256 32) (v614 : IVec S256x256 1) (v616 : IVec S256x256 1) (v617 : BitVec 1) :
    Runs c fq fo fk fv (k0_part20 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v476 v518 v607 v608 v610 v612 v614 v616 v617) ⟨k0_pay17 v518 v607 v608 v610 v612 v614 v616 v617, k0_pay18 (F := F), k0_pay19 v476 (LQ fq 0), k0_pay20 v476 (LQ fq 0), k0_pay21 (LK fk 0), k0_pay22 (LV fv 0), (constant S256x256 .f32 0x00000000#32)⟩ := by
  intro k w H
  rw [k0_part20_eq_skeleton]
  unfold k0_part20_skel
  simp only [Prog.lift, Prog.bind_op, Prog.bind_ret, Prog.pure_eq_ret]
  refine Stores.load_q ?_
  refine Stores.load_k ?_
  refine Stores.load_v ?_
  exact H

theorem runs_part21 (v643 : IVec S256x256 1) (v647 : FVec F S256x256 .f32) (v649 : FVec F S256x64 .bf16) (v653 : FVec F S256x64 .bf16) (v657 : FVec F S256x64 .bf16) (cst_476 : FVec F S256x256 .f32) :
    Runs c fq fo fk fv (k0_part21 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v647 v649 v653 v657 cst_476) ⟨k0_pay23 v643 v649 v653 v657 cst_476, k0_pay24 (LV fv 1), k0_pay25 v643 v647 (LK fk 1), (constant S256x64 .f32 0x00000000#32)⟩ := by
  intro k w H
  rw [k0_part21_eq_skeleton]
  unfold k0_part21_skel
  simp only [Prog.lift, Prog.bind_op, Prog.bind_ret, Prog.pure_eq_ret]
  refine Stores.load_k ?_
  refine Stores.load_v ?_
  exact H

theorem runs_part22 (v643 : IVec S256x256 1) (v647 : FVec F S256x256 .f32) (v683 : FVec F S256x64 .bf16) (v698 : FVec F S256x256 .bf16) (cst_494 : FVec F S256x64 .f32) :
    Runs c fq fo fk fv (k0_part22 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v647 v683 v698 cst_494) ⟨k0_pay26 v683 v698 cst_494, k0_pay27 v643 v647 (LK fk 2) (LV fv 2), k0_pay28 v647, k0_pay29 (LK fk 3), k0_pay30 (LV fv 3), (constant S256x256 .f32 0x00000000#32)⟩ := by
  intro k w H
  rw [k0_part22_eq_skeleton]
  unfold k0_part22_skel
  simp only [Prog.lift, Prog.bind_op, Prog.bind_ret, Prog.pure_eq_ret]
  refine Stores.load_k ?_
  refine Stores.load_v ?_
  refine Stores.load_k ?_
  refine Stores.load_v ?_
  exact H

theorem runs_part23 (v476 : FVec F S256x512 .bf16) (v643 : IVec S256x256 1) (v644 : FVec F S256x512 .f32) (v673 : FVec F S256x64 .f32) (v699 : FVec F S256x64 .f32) (v725 : FVec F S256x64 .f32) (v727 : FVec F S256x64 .bf16) (v731 : FVec F S256x64 .bf16) (v735 : FVec F S256x64 .bf16) (cst_515 : FVec F S256x256 .f32) :
    Runs c fq fo fk fv (k0_part23 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v476 v643 v644 v673 v699 v725 v727 v731 v735 cst_515) ⟨k0_pay31 v643 v644 v673 v699 v725 v727 v731 v735 cst_515 (LO fo 0), k0_pay32 v476 (LQ fq 1), k0_pay33 (LV fv 4), k0_pay34 v476 (LQ fq 1) (LK fk 4), k0_pay35 (F := F)⟩ := by
  intro k w H
  rw [k0_part23_eq_skeleton]
  unfold k0_part23_skel
  simp only [Prog.lift, Prog.bind_op, Prog.bind_ret, Prog.pure_eq_ret]
  refine Stores.load_o ?_
  refine Stores.load_q ?_
  refine Stores.load_k ?_
  refine Stores.load_v ?_
  exact H

theorem runs_part24 (v643 : IVec S256x256 1) (v760 : FVec F S256x256 .f32) (v770 : FVec F S256x64 .bf16) (v771 : FVec F S256x256 .f32) (v772 : FVec F S256x256 .f32) :
    Runs c fq fo fk fv (k0_part24 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v760 v770 v771 v772) ⟨k0_pay36 v643 v770 v771 v772, k0_pay37 v643 v760 (LK fk 5) (LV fv 5), k0_pay38 v760⟩ := by
  intro k w H
  rw [k0_part24_eq_skeleton]
  unfold k0_part24_skel
  simp only [Prog.lift, Prog.bind_op, Prog.bind_ret, Prog.pure_eq_ret]
  refine Stores.load_k ?_
  refine Stores.load_v ?_
  exact H

theorem runs_part25 (v643 : IVec S256x256 1) (v760 : FVec F S256x256 .f32) (v814 : FVec F S256x64 .bf16) :
    Runs c fq fo fk fv (k0_part25 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v760 v814) ⟨k0_pay39 v643 v814 (LK fk 6) (LV fv 6), k0_pay40 (LV fv 7), k0_pay41 v760 (LK fk 7), k0_pay42 (F := F)⟩ := by
  intro k w H
  rw [k0_part25_eq_skeleton]
  unfold k0_part25_skel
  simp only [Prog.lift, Prog.bind_op, Prog.bind_ret, Prog.pure_eq_ret]
  refine Stores.load_k ?_
  refine Stores.load_v ?_
  refine Stores.load_k ?_
  refine Stores.load_v ?_
  exact H

theorem runs_part26 (v476 : FVec F S256x512 .bf16) (v643 : IVec S256x256 1) (v757 : FVec F S256x512 .f32) (v786 : FVec F S256x64 .f32) (v812 : FVec F S256x64 .f32) (v838 : FVec F S256x64 .f32) (v848 : FVec F S256x64 .bf16) (v849 : FVec F S256x256 .f32) (v850 : FVec F S256x256 .f32) :
    Runs c fq fo fk fv (k0_part26 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v476 v643 v757 v786 v812 v838 v848 v849 v850) ⟨k0_pay43 v643 v757 v786 v812 v838 v848 v849 v850 (LO fo 1), k0_pay44 v476 (LQ fq 2), k0_pay45 (LV fv 8), k0_pay46 v476 (LQ fq 2) (LK fk 8), k0_pay47 (F := F)⟩ := by
  intro k w H
  rw [k0_part26_eq_skeleton]
  unfold k0_part26_skel
  simp only [Prog.lift, Prog.bind_op, Prog.bind_ret, Prog.pure_eq_ret]
  refine Stores.load_o ?_
  refine Stores.load_q ?_
  refine Stores.load_k ?_
  refine Stores.load_v ?_
  exact H

theorem runs_part27 (v643 : IVec S256x256 1) (v873 : FVec F S256x256 .f32) (v883 : FVec F S256x64 .bf16) (v886 : FVec F S256x256 .f32) (v887 : FVec F S256x256 .f32) :
    Runs c fq fo fk fv (k0_part27 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v873 v883 v886 v887) ⟨k0_pay48 v643 v883 v886 v887, k0_pay49 v643 v873 (LK fk 9) (LV fv 9), k0_pay50 v873⟩ := by
  intro k w H
  rw [k0_part27_eq_skeleton]
  unfold k0_part27_skel
  simp only [Prog.lift, Prog.bind_op, Prog.bind_ret, Prog.pure_eq_ret]
  refine Stores.load_k ?_
  refine Stores.load_v ?_
  exact H

theorem runs_part28 (v643 : IVec S256x256 1) (v873 : FVec F S256x256 .f32) (v927 : FVec F S256x64 .bf16) :
    Runs c fq fo fk fv (k0_part28 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v873 v927) ⟨k0_pay51 v643 v927 (LK fk 10) (LV fv 10), k0_pay52 (LV fv 11), k0_pay53 v873 (LK fk 11), k0_pay54 (F := F)⟩ := by
  intro k w H
  rw [k0_part28_eq_skeleton]
  unfold k0_part28_skel
  simp only [Prog.lift, Prog.bind_op, Prog.bind_ret, Prog.pure_eq_ret]
  refine Stores.load_k ?_
  refine Stores.load_v ?_
  refine Stores.load_k ?_
  refine Stores.load_v ?_
  exact H

theorem runs_part29 (v476 : FVec F S256x512 .bf16) (v643 : IVec S256x256 1) (v870 : FVec F S256x512 .f32) (v899 : FVec F S256x64 .f32) (v925 : FVec F S256x64 .f32) (v951 : FVec F S256x64 .f32) (v961 : FVec F S256x64 .bf16) (v964 : FVec F S256x256 .f32) (v965 : FVec F S256x256 .f32) :
    Runs c fq fo fk fv (k0_part29 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v476 v643 v870 v899 v925 v951 v961 v964 v965) ⟨k0_pay55 v643 v870 v899 v925 v951 v961 v964 v965 (LO fo 2), k0_pay56 v476 (LQ fq 3), k0_pay57 (LV fv 12), k0_pay58 v476 v643 (LQ fq 3) (LK fk 12), k0_pay59 v476 v643 (LQ fq 3) (LK fk 12)⟩ := by
  intro k w H
  rw [k0_part29_eq_skeleton]
  unfold k0_part29_skel
  simp only [Prog.lift, Prog.bind_op, Prog.bind_ret, Prog.pure_eq_ret]
  refine Stores.load_o ?_
  refine Stores.load_q ?_
  refine Stores.load_k ?_
  refine Stores.load_v ?_
  exact H

theorem runs_part30 (v643 : IVec S256x256 1) (v986 : FVec F S256x256 .f32) (v996 : FVec F S256x64 .bf16) (v1001 : FVec F S256x256 .f32) (v1002 : FVec F S256 .f32) :
    Runs c fq fo fk fv (k0_part30 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v986 v996 v1001 v1002) ⟨k0_pay60 v996 v1001 v1002, k0_pay61 v643 v986 (LK fk 13) (LV fv 13), k0_pay62 v986, k0_pay63 (LK fk 14)⟩ := by
  intro k w H
  rw [k0_part30_eq_skeleton]
  unfold k0_part30_skel
  simp only [Prog.lift, Prog.bind_op, Prog.bind_ret, Prog.pure_eq_ret]
  refine Stores.load_k ?_
  refine Stores.load_v ?_
  refine Stores.load_k ?_
  exact H

theorem runs_part31 (v643 : IVec S256x256 1) (v986 : FVec F S256x256 .f32) (v1040 : FVec F S256x64 .bf16) (v1042 : FVec F S2x128x64 .f32) :
    Runs c fq fo fk fv (k0_part31 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v986 v1040 v1042) ⟨k0_pay64 v643 v1040 v1042 (LV fv 14), k0_pay65 (LV fv 15), k0_pay66 v643 v986 (LK fk 15), k0_pay67 v643 v986 (LK fk 15)⟩ := by
  intro k w H
  rw [k0_part31_eq_skeleton]
  unfold k0_part31_skel
  simp only [Prog.lift, Prog.bind_op, Prog.bind_ret, Prog.pure_eq_ret]
  refine Stores.load_v ?_
  refine Stores.load_k ?_
  refine Stores.load_v ?_
  exact H

theorem runs_part32 (v476 : FVec F S256x512 .bf16) (v643 : IVec S256x256 1) (v983 : FVec F S256x512 .f32) (v1012 : FVec F S256x64 .f32) (v1038 : FVec F S256x64 .f32) (v1064 : FVec F S256x64 .f32) (v1074 : FVec F S256x64 .bf16) (v1079 : FVec F S256x256 .f32) (v1080 : FVec F S256 .f32) :
    Runs c fq fo fk fv (k0_part32 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v476 v643 v983 v1012 v1038 v1064 v1074 v1079 v1080) ⟨k0_pay68 v983 v1012 v1038 v1064 v1074 v1079 v1080 (LO fo 3), k0_pay69 v476 (LQ fq 4), k0_pay70 (LV fv 16), k0_pay71 v476 v643 (LQ fq 4) (LK fk 16)⟩ := by
  intro k w H
  rw [k0_part32_eq_skeleton]
  unfold k0_part32_skel
  simp only [Prog.lift, Prog.bind_op, Prog.bind_ret, Prog.pure_eq_ret]
  refine Stores.load_o ?_
  refine Stores.load_q ?_
  refine Stores.load_k ?_
  refine Stores.load_v ?_
  exact H

theorem runs_part33 (v643 : IVec S256x256 1) (v1099 : FVec F S256x256 .f32) (v1109 : FVec F S256x64 .bf16) (v1118 : FVec F S256x256 .f32) :
    Runs c fq fo fk fv (k0_part33 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v1099 v1109 v1118) ⟨k0_pay72 v1109 v1118, k0_pay73 v643 v1099 (LK fk 17) (LV fv 17), k0_pay74 v1099, k0_pay75 (LK fk 18)⟩ := by
  intro k w H
  rw [k0_part33_eq_skeleton]
  unfold k0_part33_skel
  simp only [Prog.lift, Prog.bind_op, Prog.bind_ret, Prog.pure_eq_ret]
  refine Stores.load_k ?_
  refine Stores.load_v ?_
  refine Stores.load_k ?_
  exact H

theorem runs_part34 (v643 : IVec S256x256 1) (v1099 : FVec F S256x256 .f32) (v1153 : FVec F S256x64 .bf16) (v1157 : FVec F S256x64 .bf16) :
    Runs c fq fo fk fv (k0_part34 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v1099 v1153 v1157) ⟨k0_pay76 v643 v1153 v1157 (LV fv 18), k0_pay77 (LV fv 19), k0_pay78 v643 v1099 (LK fk 19)⟩ := by
  intro k w H
  rw [k0_part34_eq_skeleton]
  unfold k0_part34_skel
  simp only [Prog.lift, Prog.bind_op, Prog.bind_ret, Prog.pure_eq_ret]
  refine Stores.load_v ?_
  refine Stores.load_k ?_
  refine Stores.load_v ?_
  exact H

theorem runs_part35 (v476 : FVec F S256x512 .bf16) (v643 : IVec S256x256 1) (v1096 : FVec F S256x512 .f32) (v1125 : FVec F S256x64 .f32) (v1151 : FVec F S256x64 .f32) (v1177 : FVec F S256x64 .f32) (v1187 : FVec F S256x64 .bf16) (v1196 : FVec F S256x256 .f32) :
    Runs c fq fo fk fv (k0_part35 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v476 v643 v1096 v1125 v1151 v1177 v1187 v1196) ⟨k0_pay79 v1096 v1125 v1151 v1177 v1187 v1196 (LO fo 4), k0_pay80 v476 (LQ fq 5), k0_pay81 (LV fv 20), k0_pay82 v476 v643 (LQ fq 5) (LK fk 20), k0_pay83 v476 v643 (LQ fq 5) (LK fk 20)⟩ := by
  intro k w H
  rw [k0_part35_eq_skeleton]
  unfold k0_part35_skel
  simp only [Prog.lift, Prog.bind_op, Prog.bind_ret, Prog.pure_eq_ret]
  refine Stores.load_o ?_
  refine Stores.load_q ?_
  refine Stores.load_k ?_
  refine Stores.load_v ?_
  exact H

theorem runs_part36 (v643 : IVec S256x256 1) (v1212 : FVec F S256x256 .f32) (v1222 : FVec F S256x64 .bf16) (v1232 : FVec F S256x256 .f32) (v1233 : FVec F S256 .f32) :
    Runs c fq fo fk fv (k0_part36 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v1212 v1222 v1232 v1233) ⟨k0_pay84 v1222 v1232 v1233, k0_pay85 v643 v1212 (LK fk 21) (LV fv 21), k0_pay86 v1212, k0_pay87 (LK fk 22)⟩ := by
  intro k w H
  rw [k0_part36_eq_skeleton]
  unfold k0_part36_skel
  simp only [Prog.lift, Prog.bind_op, Prog.bind_ret, Prog.pure_eq_ret]
  refine Stores.load_k ?_
  refine Stores.load_v ?_
  refine Stores.load_k ?_
  exact H

theorem runs_part37 (v643 : IVec S256x256 1) (v1212 : FVec F S256x256 .f32) (v1266 : FVec F S256x64 .bf16) (v1270 : FVec F S256x64 .bf16) :
    Runs c fq fo fk fv (k0_part37 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v1212 v1266 v1270) ⟨k0_pay88 v643 v1266 v1270 (LV fv 22), k0_pay89 (LV fv 23), k0_pay90 v643 v1212 (LK fk 23), k0_pay91 v643 v1212 (LK fk 23)⟩ := by
  intro k w H
  rw [k0_part37_eq_skeleton]
  unfold k0_part37_skel
  simp only [Prog.lift, Prog.bind_op, Prog.bind_ret, Prog.pure_eq_ret]
  refine Stores.load_v ?_
  refine Stores.load_k ?_
  refine Stores.load_v ?_
  exact H

theorem runs_part38 (v476 : FVec F S256x512 .bf16) (v643 : IVec S256x256 1) (v1209 : FVec F S256x512 .f32) (v1238 : FVec F S256x64 .f32) (v1264 : FVec F S256x64 .f32) (v1290 : FVec F S256x64 .f32) (v1300 : FVec F S256x64 .bf16) (v1310 : FVec F S256x256 .f32) (v1311 : FVec F S256 .f32) :
    Runs c fq fo fk fv (k0_part38 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v476 v643 v1209 v1238 v1264 v1290 v1300 v1310 v1311) ⟨k0_pay92 v1209 v1238 v1264 v1290 v1300 v1310 v1311 (LO fo 5), k0_pay93 v476 (LQ fq 6), k0_pay94 (LV fv 24), k0_pay95 v476 v643 (LQ fq 6) (LK fk 24)⟩ := by
  intro k w H
  rw [k0_part38_eq_skeleton]
  unfold k0_part38_skel
  simp only [Prog.lift, Prog.bind_op, Prog.bind_ret, Prog.pure_eq_ret]
  refine Stores.load_o ?_
  refine Stores.load_q ?_
  refine Stores.load_k ?_
  refine Stores.load_v ?_
  exact H

theorem runs_part39 (v643 : IVec S256x256 1) (v1325 : FVec F S256x256 .f32) (v1335 : FVec F S256x64 .bf16) (v1349 : FVec F S256x256 .f32) :
    Runs c fq fo fk fv (k0_part39 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v1325 v1335 v1349) ⟨k0_pay96 v1335 v1349, k0_pay97 v643 v1325 (LK fk 25) (LV fv 25), k0_pay98 v1325, k0_pay99 (LK fk 26), k0_pay100 (LV fv 26)⟩ := by
  intro k w H
  rw [k0_part39_eq_skeleton]
  unfold k0_part39_skel
  simp only [Prog.lift, Prog.bind_op, Prog.bind_ret, Prog.pure_eq_ret]
  refine Stores.load_k ?_
  refine Stores.load_v ?_
  refine Stores.load_k ?_
  refine Stores.load_v ?_
  exact H

theorem runs_part40 (v643 : IVec S256x256 1) (v1325 : FVec F S256x256 .f32) (v1379 : FVec F S256x64 .bf16) (v1383 : FVec F S256x64 .bf16) (v1386 : FVec F S256x64 .f32) :
    Runs c fq fo fk fv (k0_part40 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v1325 v1379 v1383 v1386) ⟨k0_pay101 v643 v1379 v1383 v1386, k0_pay102 (LV fv 27), k0_pay103 v643 v1325 (LK fk 27)⟩ := by
  intro k w H
  rw [k0_part40_eq_skeleton]
  unfold k0_part40_skel
  simp only [Prog.lift, Prog.bind_op, Prog.bind_ret, Prog.pure_eq_ret]
  refine Stores.load_k ?_
  refine Stores.load_v ?_
  exact H

theorem runs_part41 (v476 : FVec F S256x512 .bf16) (v643 : IVec S256x256 1) (v1322 : FVec F S256x512 .f32) (v1351 : FVec F S256x64 .f32) (v1377 : FVec F S256x64 .f32) (v1403 : FVec F S256x64 .f32) (v1413 : FVec F S256x64 .bf16) (v1427 : FVec F S256x256 .f32) :
    Runs c fq fo fk fv (k0_part41 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v476 v643 v1322 v1351 v1377 v1403 v1413 v1427) ⟨k0_pay104 v1322 v1351 v1377 v1403 v1413 v1427 (LO fo 6), k0_pay105 v476 (LQ fq 7), k0_pay106 v476 v643 (LQ fq 7) (LK fk 28) (LV fv 28)⟩ := by
  intro k w H
  rw [k0_part41_eq_skeleton]
  unfold k0_part41_skel
  simp only [Prog.lift, Prog.bind_op, Prog.bind_ret, Prog.pure_eq_ret]
  refine Stores.load_o ?_
  refine Stores.load_q ?_
  refine Stores.load_k ?_
  refine Stores.load_v ?_
  exact H

theorem runs_part42 (v643 : IVec S256x256 1) (v1438 : FVec F S256x256 .f32) :
    Runs c fq fo fk fv (k0_part42 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v1438) ⟨k0_pay107 v643 v1438 (LK fk 29) (LV fv 29), k0_pay108 (LV fv 30), k0_pay109 v1438 (LK fk 30)⟩ := by
  intro k w H
  rw [k0_part42_eq_skeleton]
  unfold k0_part42_skel
  simp only [Prog.lift, Prog.bind_op, Prog.bind_ret, Prog.pure_eq_ret]
  refine Stores.load_k ?_
  refine Stores.load_v ?_
  refine Stores.load_k ?_
  refine Stores.load_v ?_
  exact H

theorem runs_part43 (v643 : IVec S256x256 1) (v1438 : FVec F S256x256 .f32) (v1500 : FVec F S256x64 .bf16) (v1501 : FVec F S256x256 .f32) :
    Runs c fq fo fk fv (k0_part43 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v1438 v1500 v1501) ⟨k0_pay110 v643 v1500 v1501, k0_pay111 v643 v1438 (LK fk 31) (LV fv 31)⟩ := by
  intro k w H
  rw [k0_part43_eq_skeleton]
  unfold k0_part43_skel
  simp only [Prog.lift, Prog.bind_op, Prog.bind_ret, Prog.pure_eq_ret]
  refine Stores.load_k ?_
  refine Stores.load_v ?_
  exact H

/-- The body's last three operations. -/
def lastP (v1435 : FVec F S256x512 .f32) (v1464 v1490 v1516 v1542 : FVec F S256x64 .f32) : Prog (TpuEff nD τ sig (Elt F) Λ₀ .tc) PUnit := do
  let v1545 : Vec F S1x256x512 .bf16 ← Prog.lift (.load ao (Rect.unit (s := S8x256x512) ![7, 0, 0] S1x256x512.size inb_S8x256x512_S1x256x512_7_0_0).toLoadRect (View.loadsAt_vmem h_S1x256x512))
  let v1550 : Vec F S2x128x512 .f32 ← Prog.lift (.load outM (Rect.unit (s := S2x128x512) ![0, 0, 0] S2x128x512.size inb_S2x128x512_S2x128x512_0_0_0).toLoadRect (View.loadsAt_vmem h_S2x128x512))
  Prog.lift (.store outM (Rect.unit (s := S2x128x512) ![0, 0, 0] S2x128x512.size inb_S2x128x512_S2x128x512_0_0_0) (k0_pay1 v1435 v1464 v1490 v1516 v1542 v1545) Finset.univ (View.stores_vmem_bits_univ h_S2x128x512 rfl) (.inl rfl))
  pure ⟨⟩

theorem stores_lastP (v1435 : FVec F S256x512 .f32) (v1464 v1490 v1516 v1542 : FVec F S256x64 .f32) {w : Vec F S2x128x512 .f32}
    (hw : k0_pay1 v1435 v1464 v1490 v1516 v1542 (LO fo 7) = w) : Stores c fq fo fk fv (lastP v1435 v1464 v1490 v1516 v1542) w := by
  unfold lastP
  simp only [Prog.lift, Prog.bind_op, Prog.bind_ret, Prog.pure_eq_ret]
  refine Stores.load_o ?_
  exact Stores.last hw

end

/-- Everything the body does after its last wait and its load of the tokens. -/
def tailP (v476 : FVec F S256x512 .bf16) (v477 v478 : IVec S256x256 32) (v480 : BitVec 32) : Prog (TpuEff nD τ sig (Elt F) Λ₀ .tc) PUnit := do
  let ⟨v518, v520, v522, v524, v525⟩ : Σ' (v518 : IVec S256x256 32) (v520 : BitVec 32) (v522 : IVec S256x256 32) (v524 : IVec S256x256 1), IVec S256x256 32 ← k0_part17 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v477 v478 v480
  let ⟨v558, c128_i32_438, v560, v567, v572⟩ : Σ' (v558 : IVec S256x256 32) (c128_i32_438 : BitVec 32) (v560 : IVec S256x256 32) (v567 : IVec S256x256 32), BitVec 32 ← k0_part18 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v477 v520 v522 v524 v525
  let ⟨v607, v608, v610, v612, v614, v616, v617⟩ : Σ' (v607 : IVec S256x256 1) (v608 : IVec S256x256 1) (v610 : BitVec 32) (v612 : IVec S256x256 32) (v614 : IVec S256x256 1) (v616 : IVec S256x256 1), BitVec 1 ← k0_part19 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v477 v478 v518 v558 c128_i32_438 v560 v567 v572
  let ⟨v643, v644, v647, v649, v653, v657, cst_476⟩ : Σ' (v643 : IVec S256x256 1) (v644 : FVec F S256x512 .f32) (v647 : FVec F S256x256 .f32) (v649 : FVec F S256x64 .bf16) (v653 : FVec F S256x64 .bf16) (v657 : FVec F S256x64 .bf16), FVec F S256x256 .f32 ← k0_part20 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v476 v518 v607 v608 v610 v612 v614 v616 v617
  let ⟨v673, v683, v698, cst_494⟩ : Σ' (v673 : FVec F S256x64 .f32) (v683 : FVec F S256x64 .bf16) (v698 : FVec F S256x256 .bf16), FVec F S256x64 .f32 ← k0_part21 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v647 v649 v653 v657 cst_476
  let ⟨v699, v725, v727, v731, v735, cst_515⟩ : Σ' (v699 : FVec F S256x64 .f32) (v725 : FVec F S256x64 .f32) (v727 : FVec F S256x64 .bf16) (v731 : FVec F S256x64 .bf16) (v735 : FVec F S256x64 .bf16), FVec F S256x256 .f32 ← k0_part22 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v647 v683 v698 cst_494
  let ⟨v757, v760, v770, v771, v772⟩ : Σ' (v757 : FVec F S256x512 .f32) (v760 : FVec F S256x256 .f32) (v770 : FVec F S256x64 .bf16) (v771 : FVec F S256x256 .f32), FVec F S256x256 .f32 ← k0_part23 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v476 v643 v644 v673 v699 v725 v727 v731 v735 cst_515
  let ⟨v786, v812, v814⟩ : Σ' (v786 : FVec F S256x64 .f32) (v812 : FVec F S256x64 .f32), FVec F S256x64 .bf16 ← k0_part24 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v760 v770 v771 v772
  let ⟨v838, v848, v849, v850⟩ : Σ' (v838 : FVec F S256x64 .f32) (v848 : FVec F S256x64 .bf16) (v849 : FVec F S256x256 .f32), FVec F S256x256 .f32 ← k0_part25 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v760 v814
  let ⟨v870, v873, v883, v886, v887⟩ : Σ' (v870 : FVec F S256x512 .f32) (v873 : FVec F S256x256 .f32) (v883 : FVec F S256x64 .bf16) (v886 : FVec F S256x256 .f32), FVec F S256x256 .f32 ← k0_part26 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v476 v643 v757 v786 v812 v838 v848 v849 v850
  let ⟨v899, v925, v927⟩ : Σ' (v899 : FVec F S256x64 .f32) (v925 : FVec F S256x64 .f32), FVec F S256x64 .bf16 ← k0_part27 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v873 v883 v886 v887
  let ⟨v951, v961, v964, v965⟩ : Σ' (v951 : FVec F S256x64 .f32) (v961 : FVec F S256x64 .bf16) (v964 : FVec F S256x256 .f32), FVec F S256x256 .f32 ← k0_part28 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v873 v927
  let ⟨v983, v986, v996, v1001, v1002⟩ : Σ' (v983 : FVec F S256x512 .f32) (v986 : FVec F S256x256 .f32) (v996 : FVec F S256x64 .bf16) (v1001 : FVec F S256x256 .f32), FVec F S256 .f32 ← k0_part29 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v476 v643 v870 v899 v925 v951 v961 v964 v965
  let ⟨v1012, v1038, v1040, v1042⟩ : Σ' (v1012 : FVec F S256x64 .f32) (v1038 : FVec F S256x64 .f32) (v1040 : FVec F S256x64 .bf16), FVec F S2x128x64 .f32 ← k0_part30 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v986 v996 v1001 v1002
  let ⟨v1064, v1074, v1079, v1080⟩ : Σ' (v1064 : FVec F S256x64 .f32) (v1074 : FVec F S256x64 .bf16) (v1079 : FVec F S256x256 .f32), FVec F S256 .f32 ← k0_part31 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v986 v1040 v1042
  let ⟨v1096, v1099, v1109, v1118⟩ : Σ' (v1096 : FVec F S256x512 .f32) (v1099 : FVec F S256x256 .f32) (v1109 : FVec F S256x64 .bf16), FVec F S256x256 .f32 ← k0_part32 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v476 v643 v983 v1012 v1038 v1064 v1074 v1079 v1080
  let ⟨v1125, v1151, v1153, v1157⟩ : Σ' (v1125 : FVec F S256x64 .f32) (v1151 : FVec F S256x64 .f32) (v1153 : FVec F S256x64 .bf16), FVec F S256x64 .bf16 ← k0_part33 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v1099 v1109 v1118
  let ⟨v1177, v1187, v1196⟩ : Σ' (v1177 : FVec F S256x64 .f32) (v1187 : FVec F S256x64 .bf16), FVec F S256x256 .f32 ← k0_part34 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v1099 v1153 v1157
  let ⟨v1209, v1212, v1222, v1232, v1233⟩ : Σ' (v1209 : FVec F S256x512 .f32) (v1212 : FVec F S256x256 .f32) (v1222 : FVec F S256x64 .bf16) (v1232 : FVec F S256x256 .f32), FVec F S256 .f32 ← k0_part35 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v476 v643 v1096 v1125 v1151 v1177 v1187 v1196
  let ⟨v1238, v1264, v1266, v1270⟩ : Σ' (v1238 : FVec F S256x64 .f32) (v1264 : FVec F S256x64 .f32) (v1266 : FVec F S256x64 .bf16), FVec F S256x64 .bf16 ← k0_part36 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v1212 v1222 v1232 v1233
  let ⟨v1290, v1300, v1310, v1311⟩ : Σ' (v1290 : FVec F S256x64 .f32) (v1300 : FVec F S256x64 .bf16) (v1310 : FVec F S256x256 .f32), FVec F S256 .f32 ← k0_part37 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v1212 v1266 v1270
  let ⟨v1322, v1325, v1335, v1349⟩ : Σ' (v1322 : FVec F S256x512 .f32) (v1325 : FVec F S256x256 .f32) (v1335 : FVec F S256x64 .bf16), FVec F S256x256 .f32 ← k0_part38 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v476 v643 v1209 v1238 v1264 v1290 v1300 v1310 v1311
  let ⟨v1351, v1377, v1379, v1383, v1386⟩ : Σ' (v1351 : FVec F S256x64 .f32) (v1377 : FVec F S256x64 .f32) (v1379 : FVec F S256x64 .bf16) (v1383 : FVec F S256x64 .bf16), FVec F S256x64 .f32 ← k0_part39 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v1325 v1335 v1349
  let ⟨v1403, v1413, v1427⟩ : Σ' (v1403 : FVec F S256x64 .f32) (v1413 : FVec F S256x64 .bf16), FVec F S256x256 .f32 ← k0_part40 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v1325 v1379 v1383 v1386
  let ⟨v1435, v1438, v1464⟩ : Σ' (v1435 : FVec F S256x512 .f32) (v1438 : FVec F S256x256 .f32), FVec F S256x64 .f32 ← k0_part41 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v476 v643 v1322 v1351 v1377 v1403 v1413 v1427
  let ⟨v1490, v1500, v1501⟩ : Σ' (v1490 : FVec F S256x64 .f32) (v1500 : FVec F S256x64 .bf16), FVec F S256x256 .f32 ← k0_part42 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v1438
  let ⟨v1516, v1542⟩ : Σ' (v1516 : FVec F S256x64 .f32), FVec F S256x64 .f32 ← k0_part43 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 v643 v1438 v1500 v1501
  lastP v1435 v1464 v1490 v1516 v1542

end Cert.KernelIdeal.Pf
-- ==== Proof.Tail.lean ====
/-
The arithmetic after the ring, put together: what the body stores, as one function of the tokens, the gathered weights and the two staged
blocks of keys and values.
-/
module

public import proofs.«01_k».proof.Proof.Compute

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

set_option maxRecDepth 65536 in
set_option maxHeartbeats 1000000 in
theorem tail_stores (c : Dev nD) (fq : (cc0_scratch0 : Ref sig .tc).ty.Contents (Elt F)) (fo : (cc0_scratch1 : Ref sig .tc).ty.Contents (Elt F))
    (fk : (cc0_scratch2 : Ref sig .tc).ty.Contents (Elt F)) (fv : (cc0_scratch3 : Ref sig .tc).ty.Contents (Elt F))
    (v476 : FVec F S256x512 .bf16) (v477 v478 : IVec S256x256 32) (v480 : BitVec 32) :
    Stores c fq fo fk fv (tailP (F := F) v476 v477 v478 v480) (outOf (maskOf v477 v478 v480) v476 fq fo fk fv) := by
  unfold tailP
  refine runs_part17 _ _ _ _ _ ?_
  refine runs_part18 _ _ _ _ _ _ _ ?_
  refine runs_part19 _ _ _ _ _ _ _ _ _ _ ?_
  refine runs_part20 _ _ _ _ _ _ _ _ _ _ _ ?_
  refine runs_part21 _ _ _ _ _ _ _ _ ?_
  refine runs_part22 _ _ _ _ _ _ _ ?_
  refine runs_part23 _ _ _ _ _ _ _ _ _ _ _ _ ?_
  refine runs_part24 _ _ _ _ _ _ _ ?_
  refine runs_part25 _ _ _ _ _ ?_
  refine runs_part26 _ _ _ _ _ _ _ _ _ _ _ ?_
  refine runs_part27 _ _ _ _ _ _ _ ?_
  refine runs_part28 _ _ _ _ _ ?_
  refine runs_part29 _ _ _ _ _ _ _ _ _ _ _ ?_
  refine runs_part30 _ _ _ _ _ _ _ ?_
  refine runs_part31 _ _ _ _ _ _ ?_
  refine runs_part32 _ _ _ _ _ _ _ _ _ _ _ ?_
  refine runs_part33 _ _ _ _ _ _ ?_
  refine runs_part34 _ _ _ _ _ _ ?_
  refine runs_part35 _ _ _ _ _ _ _ _ _ _ ?_
  refine runs_part36 _ _ _ _ _ _ _ ?_
  refine runs_part37 _ _ _ _ _ _ ?_
  refine runs_part38 _ _ _ _ _ _ _ _ _ _ _ ?_
  refine runs_part39 _ _ _ _ _ _ ?_
  refine runs_part40 _ _ _ _ _ _ _ ?_
  refine runs_part41 _ _ _ _ _ _ _ _ _ _ ?_
  refine runs_part42 _ _ _ _ ?_
  refine runs_part43 _ _ _ _ _ _ ?_
  refine stores_lastP _ _ _ _ _ ?_
  rfl

end Cert.KernelIdeal.Pf
-- ==== Proof.Body.lean ====
/-
The body of the region on one core, from what the launch deals it to what it leaves.
-/
module

public import proofs.«01_k».proof.Proof.Parts
public import proofs.«01_k».proof.Proof.Tail

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The gather buffers, slot by slot -/

def blkE (c : Dev nD) : Fin 8 ≃ Fin 8 where
  toFun k := blk c k.val
  invFun k := blk c k.val
  left_inv k := by revert c k; decide
  right_inv k := by revert c k; decide

theorem blk_prv (c : Dev nD) (h : Fin 7) : blk (prv c) h.val = blk c (h.val + 1) := by revert c h; decide

theorem fin8_L (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem fin7_L (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem slots_q (c : Dev nD) (f : (cc0_scratch0 : Ref sig .tc).ty.Contents (Elt F)) :
    ((c : Thread nD τ).loc cc0_scratch0 ↦{fullShare} f : sProp 𝕄)
      = iprop(qPts c (blk c 0) f ∗ qPts c (blk c 1) f ∗ qPts c (blk c 2) f ∗ qPts c (blk c 3) f ∗ qPts c (blk c 4) f ∗ qPts c (blk c 5) f ∗ qPts c (blk c 6) f ∗ qPts c (blk c 7) f) := by
  have h : ((c : Thread nD τ).loc cc0_scratch0 ↦{fullShare} f : sProp 𝕄) = bigSep Finset.univ fun b : Fin 8 => qPts c b f := by
    refine (Ring.pointsTo_blocks (ℓ := (c : Thread nD τ).loc cc0_scratch0) (fun b : Fin 8 => (rq8 b).set) rq8_disj rq8_cover f).trans ?_
    exact bigSep_congr fun b _ => by unfold qPts; rw [qM_set]
  rw [h, bigSep_univ_equiv (blkE c) (fun b : Fin 8 => qPts c b f), fin8_L]
  rfl
theorem slots_o (c : Dev nD) (f : (cc0_scratch1 : Ref sig .tc).ty.Contents (Elt F)) :
    ((c : Thread nD τ).loc cc0_scratch1 ↦{fullShare} f : sProp 𝕄)
      = iprop(oPts c (blk c 0) f ∗ oPts c (blk c 1) f ∗ oPts c (blk c 2) f ∗ oPts c (blk c 3) f ∗ oPts c (blk c 4) f ∗ oPts c (blk c 5) f ∗ oPts c (blk c 6) f ∗ oPts c (blk c 7) f) := by
  have h : ((c : Thread nD τ).loc cc0_scratch1 ↦{fullShare} f : sProp 𝕄) = bigSep Finset.univ fun b : Fin 8 => oPts c b f := by
    refine (Ring.pointsTo_blocks (ℓ := (c : Thread nD τ).loc cc0_scratch1) (fun b : Fin 8 => (ro8 b).set) ro8_disj ro8_cover f).trans ?_
    exact bigSep_congr fun b _ => by unfold oPts; rw [oM_set]
  rw [h, bigSep_univ_equiv (blkE c) (fun b : Fin 8 => oPts c b f), fin8_L]
  rfl

/-- The seven slots that are not `c`'s own, at any contents: what `c`'s signal hands `prv c`. -/
theorem give_bar (c : Dev nD) (f : (cc0_scratch0 : Ref sig .tc).ty.Contents (Elt F)) (g : (cc0_scratch1 : Ref sig .tc).ty.Contents (Elt F)) :
    iprop((qPts c (blk c 1) f ∗ qPts c (blk c 2) f ∗ qPts c (blk c 3) f ∗ qPts c (blk c 4) f ∗ qPts c (blk c 5) f ∗ qPts c (blk c 6) f ∗ qPts c (blk c 7) f)
      ∗ (oPts c (blk c 1) g ∗ oPts c (blk c 2) g ∗ oPts c (blk c 3) g ∗ oPts c (blk c 4) g ∗ oPts c (blk c 5) g ∗ oPts c (blk c 6) g ∗ oPts c (blk c 7) g))
      ⊢ (barPay (prv c) : sProp 𝕄) := by
  have e (h : Fin 7) : iprop(qPts c (blk c (h.val + 1)) f ∗ oPts c (blk c (h.val + 1)) g) ⊢ (landing (prv c) h : sProp 𝕄) := by
    unfold landing; rw [nxt_prv, blk_prv]
    iintro ⟨H1, H2⟩
    isplitl [H1]
    · iexists f; iexact H1
    · iexists g; iexact H2
  unfold barPay; rw [fin7_L]
  iintro ⟨⟨Q1, Q2, Q3, Q4, Q5, Q6, Q7⟩, ⟨O1, O2, O3, O4, O5, O6, O7⟩⟩
  isplitl [Q1 O1]; · iapply (e 0); isplitl [Q1]; · iexact Q1
                     iexact O1
  isplitl [Q2 O2]; · iapply (e 1); isplitl [Q2]; · iexact Q2
                     iexact O2
  isplitl [Q3 O3]; · iapply (e 2); isplitl [Q3]; · iexact Q3
                     iexact O3
  isplitl [Q4 O4]; · iapply (e 3); isplitl [Q4]; · iexact Q4
                     iexact O4
  isplitl [Q5 O5]; · iapply (e 4); isplitl [Q5]; · iexact Q5
                     iexact O5
  isplitl [Q6 O6]; · iapply (e 5); isplitl [Q6]; · iexact Q6
                     iexact O6
  iapply (e 6); isplitl [Q7]; · iexact Q7
  iexact O7

/-- All eight slots at the gathered contents are the two buffers whole. -/
theorem join_all (c : Dev nD) :
    iprop(slot m ρ c (blk c 0) ∗ slot m ρ c (blk c 1) ∗ slot m ρ c (blk c 2) ∗ slot m ρ c (blk c 3) ∗ slot m ρ c (blk c 4) ∗ slot m ρ c (blk c 5) ∗ slot m ρ c (blk c 6) ∗ slot m ρ c (blk c 7))
      ⊢ (iprop(((c : Thread nD τ).loc cc0_scratch0 ↦{fullShare} GQ m ρ) ∗ ((c : Thread nD τ).loc cc0_scratch1 ↦{fullShare} GO m ρ)) : sProp 𝕄) := by
  rw [slots_q, slots_o]; unfold slot
  iintro ⟨⟨Q0, O0⟩, ⟨Q1, O1⟩, ⟨Q2, O2⟩, ⟨Q3, O3⟩, ⟨Q4, O4⟩, ⟨Q5, O5⟩, ⟨Q6, O6⟩, ⟨Q7, O7⟩⟩
  iframe

/-- The own slot as the body stores it is the gathered buffer's there. -/
theorem own_q (c : Dev nD) (f : (cc0_scratch0 : Ref sig .tc).ty.Contents (Elt F)) {off : Fin 3 → ℕ} (h : off = ![(blk c 0).val, 0, 0])
    (inb : ∀ a, off a + S1x512x256.size a ≤ S8x512x256.size a) :
    qPts c (blk c 0) ((aq.access (Rect.unit (s := S8x512x256) off S1x512x256.size inb)).write (Elt F) f (k0_pay2 (wqstg m ρ c)) Finset.univ) = (qPts c (blk c 0) (GQ m ρ) : sProp 𝕄) := by
  subst h
  unfold qPts
  refine pointsTo_congr fun i hi => ?_
  have hi' : i ∈ (aq.access (Rect.unit (s := S8x512x256) ![(blk c 0).val, 0, 0] S1x512x256.size inb)).set := by
    have es : (aq.access (Rect.unit (s := S8x512x256) ![(blk c 0).val, 0, 0] S1x512x256.size inb)).set = (rq8 (blk c 0)).set := View.set_slice_whole _ _
    rw [es, ← qM_set]; exact hi
  obtain ⟨x, -, rfl⟩ := Finset.mem_map.mp hi'
  rw [View.write_emb_of_mem _ _ (Finset.mem_univ x)]
  have h0 : (x (0 : Fin 3)).val = 0 := Nat.lt_one_iff.mp (x (0 : Fin 3)).isLt
  have hb : (blk c 0).val = c.val := congrArg Fin.val (blk_zero c)
  have e0 : ((aq.access (Rect.unit (s := S8x512x256) ![(blk c 0).val, 0, 0] S1x512x256.size inb)).emb x : S8x512x256.Idx) (0 : Fin 3) = c := by
    refine Fin.ext ?_
    show (blk c 0).val + 1 * (x (0 : Fin 3)).val = c.val
    omega
  have e1 : inq ((aq.access (Rect.unit (s := S8x512x256) ![(blk c 0).val, 0, 0] S1x512x256.size inb)).emb x) = x := by
    funext a
    match a with
    | ⟨0, _⟩ => exact Fin.ext h0.symm
    | ⟨1, _⟩ => exact Fin.ext ((Nat.zero_add _).trans (Nat.one_mul _))
    | ⟨2, _⟩ => exact Fin.ext ((Nat.zero_add _).trans (Nat.one_mul _))
  show k0_pay2 (wqstg m ρ c) x = GQ m ρ _
  unfold GQ
  rw [e0, e1]
theorem own_o (c : Dev nD) (f : (cc0_scratch1 : Ref sig .tc).ty.Contents (Elt F)) {off : Fin 3 → ℕ} (h : off = ![(blk c 0).val, 0, 0])
    (inb : ∀ a, off a + S1x256x512.size a ≤ S8x256x512.size a) :
    oPts c (blk c 0) ((ao.access (Rect.unit (s := S8x256x512) off S1x256x512.size inb)).write (Elt F) f (k0_pay3 (wostg m ρ c)) Finset.univ) = (oPts c (blk c 0) (GO m ρ) : sProp 𝕄) := by
  subst h
  unfold oPts
  refine pointsTo_congr fun i hi => ?_
  have hi' : i ∈ (ao.access (Rect.unit (s := S8x256x512) ![(blk c 0).val, 0, 0] S1x256x512.size inb)).set := by
    have es : (ao.access (Rect.unit (s := S8x256x512) ![(blk c 0).val, 0, 0] S1x256x512.size inb)).set = (ro8 (blk c 0)).set := View.set_slice_whole _ _
    rw [es, ← oM_set]; exact hi
  obtain ⟨x, -, rfl⟩ := Finset.mem_map.mp hi'
  rw [View.write_emb_of_mem _ _ (Finset.mem_univ x)]
  have h0 : (x (0 : Fin 3)).val = 0 := Nat.lt_one_iff.mp (x (0 : Fin 3)).isLt
  have hb : (blk c 0).val = c.val := congrArg Fin.val (blk_zero c)
  have e0 : ((ao.access (Rect.unit (s := S8x256x512) ![(blk c 0).val, 0, 0] S1x256x512.size inb)).emb x : S8x256x512.Idx) (0 : Fin 3) = c := by
    refine Fin.ext ?_
    show (blk c 0).val + 1 * (x (0 : Fin 3)).val = c.val
    omega
  have e1 : ino ((ao.access (Rect.unit (s := S8x256x512) ![(blk c 0).val, 0, 0] S1x256x512.size inb)).emb x) = x := by
    funext a
    match a with
    | ⟨0, _⟩ => exact Fin.ext h0.symm
    | ⟨1, _⟩ => exact Fin.ext ((Nat.zero_add _).trans (Nat.one_mul _))
    | ⟨2, _⟩ => exact Fin.ext ((Nat.zero_add _).trans (Nat.one_mul _))
  show k0_pay3 (wostg m ρ c) x = GO m ρ _
  unfold GO
  rw [e0, e1]

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the body stores on device `c`. -/
def outAt (c : Dev nD) : (cc0_stg3_0 : Ref sig .tc).ty.Contents (Elt F) :=
  outOf (maskOf (iota .tc S256x256 32 [0] iota_S256x256_d0_w32) (iota .tc S256x256 32 [1] iota_S256x256_d1_w32) (Scalar.select (Scalar.cmpi .eq 128#32 0#32) 1#32 128#32))
    (k0_pay4 (xstg m ρ c)) (GQ m ρ) (GO m ρ) (GK m ρ c) (GV m ρ c)

def hopLin (c : Dev nD) (h : Fin 7) : sProp 𝕄 :=
  iprop(dutyTok ER (dCell c (sqI h)) 0 false ∗ dutyTok ER (dCell c (soI h)) 0 false
    ∗ dutyTok ER (dCell (nxt c) (rqI h)) 0 false ∗ dutyTok ER (dCell (nxt c) (roI h)) 0 false
    ∗ atPos ER (dCell c (sqI h)) 0 ∅ 0 ∗ atPos ER (dCell c (soI h)) 0 ∅ 0 ∗ atPos ER (dCell c (rqI h)) 0 ∅ 0 ∗ atPos ER (dCell c (roI h)) 0 ∅ 0)
def hopCred (c : Dev nD) (h : Fin 7) : sProp 𝕄 := iprop(cred (tallyAt (dCell c (rqI h)) () NQ) ∗ cred (tallyAt (dCell c (roI h)) () NO))
theorem hopRes_intro (c : Dev nD) (h : Fin 7) : iprop(hopLin c h ∗ hopCred c h) ⊢ (hopRes c h : sProp 𝕄) := by
  unfold hopLin hopCred hopRes
  iintro ⟨⟨H1, H2, H3, H4, H5, H6, H7, H8⟩, ⟨H9, H10⟩⟩
  iframe

/-- What device `c` owns of the cells: its positions, and the tokens of the duties it pays. -/
def linear (c : Dev nD) : sProp 𝕄 :=
  iprop((atPos ER (barCell c) 0 ∅ 0 ∗ dutyTok ER (barCell (nxt c)) 0 false ∗ dutyTok ER (barCell (prv c)) 0 true
      ∗ dutyTok ER (dCell c kI) 0 false ∗ dutyTok ER (dCell c vI) 0 false ∗ atPos ER (dCell c kI) 0 ∅ 0 ∗ atPos ER (dCell c vI) 0 ∅ 0)
    ∗ bigSep Finset.univ fun h : Fin 7 => hopLin c h)

def ghost (K : Key → ℕ) (c : Dev nD) : sProp 𝕄 := iprop(records m ρ K ∗ linear c)

def kvArgs (c : Dev nD) : sProp 𝕄 :=
  iprop(((c : Thread nD τ).loc main_arg2 ↦{fullShare} kArg m ρ c) ∗ ((c : Thread nD τ).loc main_arg3 ↦{fullShare} vArg m ρ c))

def creds (c : Dev nD) : sProp 𝕄 := iprop(cred (tallyAt (barCell c) () 2) ∗ bigSep Finset.univ fun h : Fin 7 => hopCred c h)

/-- What device `c`'s body starts from. -/
def start (c : Dev nD) : sProp 𝕄 := iprop((∃ K, ghost m ρ K c) ∗ creds c ∗ levAts L lv ∗ kvArgs m ρ c)

def scr (c : Dev nD) : sProp 𝕄 :=
  iprop((∃ f, ((c : Thread nD τ).loc cc0_scratch0 ↦{fullShare} f)) ∗ (∃ f, ((c : Thread nD τ).loc cc0_scratch1 ↦{fullShare} f))
    ∗ (∃ f, ((c : Thread nD τ).loc cc0_scratch2 ↦{fullShare} f)) ∗ (∃ f, ((c : Thread nD τ).loc cc0_scratch3 ↦{fullShare} f)))

def Φ₀ (c : Dev nD) : sProp 𝕄 := iprop(start m ρ c ∗ scr c)
/-- After the point: every cell of the device closed at zero, the copied arguments as they were. -/
def Φ₁ (c : Dev nD) : sProp 𝕄 := iprop((bigSep Finset.univ fun q : Fin 30 => semVal (dCell c q) 0) ∗ semVal (barCell c) 0 ∗ kvArgs m ρ c ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => wostg m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body as its parts, the arithmetic after the ring folded. -/
def bodyP : Prog (TpuEff nD τ sig (Elt F) Λ₀ .tc) PUnit := do
  let ⟨d0, v2, v13, v24⟩ : Σ' (d0 : Dev nD) (v2 : BitVec 32) (v13 : BitVec 32), BitVec 32 ← k0_part1 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8
  let ⟨v56, v57, v62⟩ : Σ' (v56 : BitVec 32) (v57 : BitVec 32), BitVec 1 ← k0_part2 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 d0 v2 v13 v24
  k0_part3 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 d0 v13 v56 v57 v62
  k0_part4 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 d0 v2 v13
  k0_part5 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 d0 v13
  k0_part6 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 d0 v2 v13
  k0_part7 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 d0 v13
  let v242 : BitVec 32 ← k0_part8 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 d0 v2 v13
  k0_part9 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 d0 v13 v242
  k0_part10 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 d0 v2 v13
  k0_part11 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 d0 v13
  k0_part12 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 d0 v2 v13
  k0_part13 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 d0 v13
  k0_part14 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 d0 v2 v13
  k0_part15 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 d0 v13
  let ⟨v476, v477, v478, v480⟩ : Σ' (v476 : FVec F S256x512 .bf16) (v477 : IVec S256x256 32) (v478 : IVec S256x256 32), BitVec 32 ← k0_part16 xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 d0 v13
  tailP v476 v477 v478 v480

set_option maxRecDepth 65536 in
theorem body_eq : cc0_body (F := F) xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8 = bodyP := by
  rw [cc0_body_eq_skeleton]; rfl

theorem all_sems (c : Dev nD) :
    iprop(hopSems c 0 ∗ hopSems c 1 ∗ hopSems c 2 ∗ hopSems c 3 ∗ hopSems c 4 ∗ hopSems c 5 ∗ hopSems c 6 ∗ semVal (dCell c kI) 0 ∗ semVal (dCell c vI) 0)
      ⊢ (bigSep Finset.univ fun q : Fin 30 => semVal (dCell c q) 0 : sProp 𝕄) := by
  rw [bigSep_univ_eq_bigSepL [sqI 0, soI 0, rqI 0, roI 0, sqI 1, soI 1, rqI 1, roI 1, sqI 2, soI 2, rqI 2, roI 2, sqI 3, soI 3, rqI 3, roI 3, sqI 4, soI 4, rqI 4, roI 4, sqI 5, soI 5, rqI 5, roI 5, sqI 6, soI 6, rqI 6, roI 6, kI, vI] (by decide) (by decide)]
  unfold hopSems
  show iprop((semVal (dCell c (sqI 0)) 0 ∗ semVal (dCell c (soI 0)) 0 ∗ semVal (dCell c (rqI 0)) 0 ∗ semVal (dCell c (roI 0)) 0) ∗ (semVal (dCell c (sqI 1)) 0 ∗ semVal (dCell c (soI 1)) 0 ∗ semVal (dCell c (rqI 1)) 0 ∗ semVal (dCell c (roI 1)) 0) ∗ (semVal (dCell c (sqI 2)) 0 ∗ semVal (dCell c (soI 2)) 0 ∗ semVal (dCell c (rqI 2)) 0 ∗ semVal (dCell c (roI 2)) 0) ∗ (semVal (dCell c (sqI 3)) 0 ∗ semVal (dCell c (soI 3)) 0 ∗ semVal (dCell c (rqI 3)) 0 ∗ semVal (dCell c (roI 3)) 0) ∗ (semVal (dCell c (sqI 4)) 0 ∗ semVal (dCell c (soI 4)) 0 ∗ semVal (dCell c (rqI 4)) 0 ∗ semVal (dCell c (roI 4)) 0) ∗ (semVal (dCell c (sqI 5)) 0 ∗ semVal (dCell c (soI 5)) 0 ∗ semVal (dCell c (rqI 5)) 0 ∗ semVal (dCell c (roI 5)) 0) ∗ (semVal (dCell c (sqI 6)) 0 ∗ semVal (dCell c (soI 6)) 0 ∗ semVal (dCell c (rqI 6)) 0 ∗ semVal (dCell c (roI 6)) 0) ∗ semVal (dCell c kI) 0 ∗ semVal (dCell c vI) 0)
    ⊢ iprop(semVal (dCell c (sqI 0)) 0 ∗ semVal (dCell c (soI 0)) 0 ∗ semVal (dCell c (rqI 0)) 0 ∗ semVal (dCell c (roI 0)) 0 ∗ semVal (dCell c (sqI 1)) 0 ∗ semVal (dCell c (soI 1)) 0 ∗ semVal (dCell c (rqI 1)) 0 ∗ semVal (dCell c (roI 1)) 0 ∗ semVal (dCell c (sqI 2)) 0 ∗ semVal (dCell c (soI 2)) 0 ∗ semVal (dCell c (rqI 2)) 0 ∗ semVal (dCell c (roI 2)) 0 ∗ semVal (dCell c (sqI 3)) 0 ∗ semVal (dCell c (soI 3)) 0 ∗ semVal (dCell c (rqI 3)) 0 ∗ semVal (dCell c (roI 3)) 0 ∗ semVal (dCell c (sqI 4)) 0 ∗ semVal (dCell c (soI 4)) 0 ∗ semVal (dCell c (rqI 4)) 0 ∗ semVal (dCell c (roI 4)) 0 ∗ semVal (dCell c (sqI 5)) 0 ∗ semVal (dCell c (soI 5)) 0 ∗ semVal (dCell c (rqI 5)) 0 ∗ semVal (dCell c (roI 5)) 0 ∗ semVal (dCell c (sqI 6)) 0 ∗ semVal (dCell c (soI 6)) 0 ∗ semVal (dCell c (rqI 6)) 0 ∗ semVal (dCell c (roI 6)) 0 ∗ semVal (dCell c kI) 0 ∗ semVal (dCell c vI) 0)
  iintro ⟨⟨A0, B0, C0, D0⟩, ⟨A1, B1, C1, D1⟩, ⟨A2, B2, C2, D2⟩, ⟨A3, B3, C3, D3⟩, ⟨A4, B4, C4, D4⟩, ⟨A5, B5, C5, D5⟩, ⟨A6, B6, C6, D6⟩, X, Y⟩
  iframe

section Body

variable (K : Key → ℕ)

def bodyPre (c : Dev nD) : sProp 𝕄 :=
  iprop((ghost m ρ K c ∗ creds c ∗ levAts L lv ∗ kvArgs m ρ c ∗ scr c)
    ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (wqstg m ρ c) ∗ stg c cc0_stg2_0 (wostg m ρ c)
    ∗ stg c cc0_stg3_0 (outAt m ρ c))

set_option maxHeartbeats 1600000 in
/-- The body, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ (cc0_body (F := F) xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8) Kt := by
  rw [body_eq]
  unfold bodyP
  rw [k0_part1_eq_skeleton, k0_part2_eq_skeleton]
  unfold k0_part1_skel k0_part2_skel
  simp only [semSignalWord, semWaitWord, Prog.lift, Prog.bind_op, Prog.bind_ret, Prog.pure_eq_ret, wp_deviceId]
  unfold bodyPre ghost linear creds kvArgs scr
  rw [fin7_L, fin7_L]
  iintro ⟨⟨⟨⟨#HR, ⟨HatB, HtBN, HtBP, HtK, HtV, HatK, HatV⟩, L0, L1, L2, L3, L4, L5, L6⟩, ⟨HcB, C0, C1, C2, C3, C4, C5, C6⟩, #Hlev, ⟨Hka, Hva⟩, ⟨%f0, Hs0⟩, ⟨%f1, Hs1⟩, ⟨%f2, Hs2⟩, ⟨%f3, Hs3⟩⟩,
    Ho, ⟨%d0, %g0, %hg0, Hx⟩, ⟨%d1, %g1, %hg1, Hwq⟩, ⟨%d2, %g2, %hg2, Hwo⟩, ⟨%d3, %g3, %hg3, Hout⟩⟩, Hk⟩
  have hx : g0 = xstg m ρ c := by rw [hg0]; unfold Dat.before; rw [if_pos (fetch_0 t₀)]; rfl
  have hwq : g1 = wqstg m ρ c := by rw [hg1]; unfold Dat.before; rw [if_pos (fetch_1 t₀)]; rfl
  have hwo : g2 = wostg m ρ c := by rw [hg2]; unfold Dat.before; rw [if_pos (fetch_2 t₀)]; rfl
  subst hx; subst hwq; subst hwo
  unfold Dat.owesAt Pipeline.owesWithin
  icases Ho with ⟨%W, %hW, HO⟩
  rw [show (dats m ρ 0 c).owed t₀.castSucc = O₀ c from rfl]
  -- the local copies start: each takes the device's own batches out of the argument
  ihave Hk2 := ((pointsTo_split_subset (ℓ := (c : Thread nD τ).loc main_arg2) (f := kArg m ρ c) (Finset.subset_univ (kS c).view.set)).1) $$ Hka
  icases Hk2 with ⟨HkS, HkR⟩
  ihave Hv2 := ((pointsTo_split_subset (ℓ := (c : Thread nD τ).loc main_arg3) (f := vArg m ρ c) (Finset.subset_univ (vS c).view.set)).1) $$ Hva
  icases Hv2 with ⟨HvS, HvR⟩
  have ek (f) : ((c : Thread nD τ).loc cc0_scratch2 ↦{fullShare} f : sProp 𝕄) = kPts c f := by unfold kPts; simp only [Memref.view_whole, View.set_whole]
  have ev (f) : ((c : Thread nD τ).loc cc0_scratch3 ↦{fullShare} f : sProp 𝕄) = vPts c f := by unfold vPts; simp only [Memref.view_whole, View.set_whole]
  ihave Hs2 := (Entails.of_eq (ek f2)) $$ Hs2
  ihave Hs3 := (Entails.of_eq (ev f3)) $$ Hs3
  iapply (copy_k m ρ K c rfl rfl f2) $$ [HkS Hs2 HtK]
  · isplitr; · iexact HR
    isplitl [HkS]; · unfold kSPts; iexact HkS
    isplitl [Hs2] <;> iassumption
  iintro HcK
  iapply (copy_v m ρ K c rfl rfl f3) $$ [HvS Hs3 HtV]
  · isplitr; · iexact HR
    isplitl [HvS]; · unfold vSPts; iexact HvS
    isplitl [Hs3] <;> iassumption
  iintro HcV
  -- the own slots
  iapply (wp_load 𝒱₀ (c : Thread nD τ) none Set.univ (m := wqM) (Finset.subset_univ _)) $$ Hwq
  iintro Hwq
  rw [show (wqM : Memref sig .tc .vmem S512x256 .f32).view.readAt (Elt F) (Rect.unit (s := S512x256) ![0, 0] S512x256.size inb_S512x256_S512x256_0_0).toLoadRect (wqstg m ρ c) = wqstg m ρ c
    from Memref.readAt_unit_zero (Elt F) cc0_stg1_0 hz2 _ _]
  iapply (wp_load 𝒱₀ (c : Thread nD τ) none Set.univ (m := aq) (Finset.subset_univ _)) $$ Hs0
  iintro Hs0
  iapply (wp_store 𝒱₀ (c : Thread nD τ) none Set.univ (m := aq) (r := Rect.unit (s := S8x512x256) (k0_off2 c) S1x512x256.size (k0_off2_inb c)) (Mk := Finset.univ) (Finset.subset_univ _)) $$ Hs0
  iintro Hs0
  iapply (wp_load 𝒱₀ (c : Thread nD τ) none Set.univ (m := woM) (Finset.subset_univ _)) $$ Hwo
  iintro Hwo
  rw [show (woM : Memref sig .tc .vmem S256x512 .f32).view.readAt (Elt F) (Rect.unit (s := S256x512) ![0, 0] S256x512.size inb_S256x512_S256x512_0_0).toLoadRect (wostg m ρ c) = wostg m ρ c
    from Memref.readAt_unit_zero (Elt F) cc0_stg2_0 hz2 _ _]
  iapply (wp_load 𝒱₀ (c : Thread nD τ) none Set.univ (m := ao) (Finset.subset_univ _)) $$ Hs1
  iintro Hs1
  iapply (wp_store 𝒱₀ (c : Thread nD τ) none Set.univ (m := ao) (r := Rect.unit (s := S8x256x512) (k0_off3 c) S1x256x512.size (k0_off3_inb c)) (Mk := Finset.univ) (Finset.subset_univ _)) $$ Hs1
  iintro Hs1
  ihave Hs0 := (Entails.of_eq (slots_q c _)) $$ Hs0
  ihave Hs1 := (Entails.of_eq (slots_o c _)) $$ Hs1
  icases Hs0 with ⟨Q0, HQ⟩
  icases Hs1 with ⟨P0, HP⟩
  ihave Q0 := (Entails.of_eq (own_q m ρ c f0 (off2_eq c) _)) $$ Q0
  ihave P0 := (Entails.of_eq (own_o m ρ c f1 (off3_eq c) _)) $$ P0
  ihave HB := (give_bar c _ _) $$ [HQ HP]
  · isplitl [HQ]; · iexact HQ
    iexact HP
  -- the two signals
  rw [dev1_eq c, dev2_eq c]
  iapply (Rounds.wp_signal 𝒱₀ ER (rd m ρ) (c : Thread nD τ) none (dst := (prv c : Thread nD τ)) (κ := K (prv c, none))
      (d := true) (by rw [duties_bar]; exact Finset.mem_univ _) ((amount_bar m ρ (prv c) true).trans (by decide)) () (O₁ c) rfl)
    $$ [HO HtBP HB]
  · isplitr; · iapply (inv_at m ρ K (prv c, none)); iexact HR
    isplitl [HO]; · iexact HO
    isplitl [HtBP]; · iexact HtBP
    isplitl [HB]; · rw [payload_bar_true]; iexact HB
    iapply (reached_at m ρ K (prv c, none)); iexact HR
  iintro HO
  unfold O₁
  iapply (Rounds.wp_signal 𝒱₀ ER (rd m ρ) (c : Thread nD τ) none (dst := (nxt c : Thread nD τ)) (κ := K (nxt c, none))
      (d := false) (by rw [duties_bar]; exact Finset.mem_univ _) ((amount_bar m ρ (nxt c) false).trans (by decide)) () (Or c hops) rfl)
    $$ [HO HtBN]
  · isplitr; · iapply (inv_at m ρ K (nxt c, none)); iexact HR
    isplitl [HO]; · iexact HO
    isplitl [HtBN]; · iexact HtBN
    isplitr; · rw [payload_bar_false]; iempintro
    iapply (reached_at m ρ K (nxt c, none)); iexact HR
  iintro HO
  -- the wait for both neighbours: the seven landing slots of `nxt c` come with it
  iapply (Rounds.wp_wait_rest_token 𝒱₀ ER (rd m ρ) (c : Thread nD τ) none (κ := K (c, none))
      (wpE_semWait_eq 𝒱₀ (c : Thread nD τ) none Set.univ) (Set.mem_univ _) () (O := Or c hops) (W := W) (R := 0) (m := 0) (T := ∅)
      (by rw [expect_bar]; decide)) $$ [HcB HO HatB]
  · isplitr; · iapply (inv_at m ρ K (c, none)); iexact HR
    isplitl [HcB]; · iexact HcB
    isplitl [HO]; · iexact HO
    isplitr
    · iapply (mayWait_ring c (.reg barS) hops 1 (Nat.le_of_eq (lv_bar c ())) (fun h' _ => by omega)); iexact Hlev
    iexact HatB
  iintro ⟨HO, HatB, -, Hpay⟩
  ihave Hp := (Entails.of_eq (rest_bar m ρ c)) $$ Hpay
  unfold barPay
  rw [fin7_L]
  icases Hp with ⟨-, N0, N1, N2, N3, N4, N5, N6⟩
  iapply (parts_0 m ρ K c) $$ [N0 L0 C0 Q0 P0 HO]
  · isplitr; · iexact HR
    isplitr; · iexact Hlev
    isplitl [N0]; · iexact N0
    isplitl [L0 C0]
    · iapply (hopRes_intro c 0); isplitl [L0]; · iexact L0
      iexact C0
    isplitl [Q0 P0]
    · unfold slot; isplitl [Q0]; · iexact Q0
      iexact P0
    iexists _; iexact HO
  iintro ⟨T0, S1, Z0, HO⟩
  iapply (parts_1 m ρ K c) $$ [N1 L1 C1 S1 HO]
  · isplitr; · iexact HR
    isplitr; · iexact Hlev
    isplitl [N1]; · iexact N1
    isplitl [L1 C1]
    · iapply (hopRes_intro c 1); isplitl [L1]; · iexact L1
      iexact C1
    isplitl [S1]; · iexact S1
    iexact HO
  iintro ⟨T1, S2, Z1, HO⟩
  iapply (parts_2 m ρ K c) $$ [N2 L2 C2 S2 HO]
  · isplitr; · iexact HR
    isplitr; · iexact Hlev
    isplitl [N2]; · iexact N2
    isplitl [L2 C2]
    · iapply (hopRes_intro c 2); isplitl [L2]; · iexact L2
      iexact C2
    isplitl [S2]; · iexact S2
    iexact HO
  iintro %v242
  iintro ⟨T2, S3, Z2, HO⟩
  iapply (parts_3 m ρ K c) $$ [N3 L3 C3 S3 HO]
  · isplitr; · iexact HR
    isplitr; · iexact Hlev
    isplitl [N3]; · iexact N3
    isplitl [L3 C3]
    · iapply (hopRes_intro c 3); isplitl [L3]; · iexact L3
      iexact C3
    isplitl [S3]; · iexact S3
    iexact HO
  iintro ⟨T3, S4, Z3, HO⟩
  iapply (parts_4 m ρ K c) $$ [N4 L4 C4 S4 HO]
  · isplitr; · iexact HR
    isplitr; · iexact Hlev
    isplitl [N4]; · iexact N4
    isplitl [L4 C4]
    · iapply (hopRes_intro c 4); isplitl [L4]; · iexact L4
      iexact C4
    isplitl [S4]; · iexact S4
    iexact HO
  iintro ⟨T4, S5, Z4, HO⟩
  iapply (parts_5 m ρ K c) $$ [N5 L5 C5 S5 HO]
  · isplitr; · iexact HR
    isplitr; · iexact Hlev
    isplitl [N5]; · iexact N5
    isplitl [L5 C5]
    · iapply (hopRes_intro c 5); isplitl [L5]; · iexact L5
      iexact C5
    isplitl [S5]; · iexact S5
    iexact HO
  iintro ⟨T5, S6, Z5, HO⟩
  iapply (parts_6 m ρ K c) $$ [N6 L6 C6 S6 HO HcK HcV HatK HatV Hx]
  · isplitl [N6 L6 C6 S6 HO]
    · isplitr; · iexact HR
      isplitr; · iexact Hlev
      isplitl [N6]; · iexact N6
      isplitl [L6 C6]
      · iapply (hopRes_intro c 6); isplitl [L6]; · iexact L6
        iexact C6
      isplitl [S6]; · iexact S6
      iexact HO
    iframe
  iintro ⟨⟨T6, S7, Z6, ⟨%W2, HO⟩⟩, ⟨Pk, PkS⟩, ⟨Pv, PvS⟩, ZK, ZV, Hx⟩
  imod (Rounds.cell_close ER (rd m ρ) (Set.mem_univ (K (c, none))) (fun h => h) (R := 0 + 1) (duties_later m ρ (barCell c))) $$ [HatB] with HzB
  · isplitr; · iapply (inv_at m ρ K (c, none)); iexact HR
    iexact HatB
  ihave HG := (join_all m ρ c) $$ [T0 T1 T2 T3 T4 T5 T6 S7]
  · iframe
  icases HG with ⟨HGQ, HGO⟩
  ihave Pk := (Entails.of_eq (ek _).symm) $$ Pk
  ihave Pv := (Entails.of_eq (ev _).symm) $$ Pv
  have hT := tail_stores c (GQ m ρ) (GO m ρ) (GK m ρ c) (GV m ρ c) (k0_pay4 (xstg m ρ c)) (iota .tc S256x256 32 [0] iota_S256x256_d0_w32) (iota .tc S256x256 32 [1] iota_S256x256_d1_w32)
    (Scalar.select (Scalar.cmpi .eq 128#32 0#32) 1#32 128#32) Kt g3
  unfold wpc at hT
  iapply hT $$ [HGQ HGO Pk Pv Hout]
  · unfold bufs; iframe
  iintro ⟨Hb, Hout⟩
  iapply Hk
  unfold bufs bodyPost Φ₁ kvArgs scr Dat.owesAt Pipeline.owesWithin
  icases Hb with ⟨HGQ, HGO, Pk, Pv⟩
  rw [show (dats m ρ 0 c).owed t₀.succ = 0 from rfl]
  isplitl [Z0 Z1 Z2 Z3 Z4 Z5 Z6 ZK ZV HzB PkS HkR PvS HvR HGQ HGO Pk Pv]
  · isplitl [Z0 Z1 Z2 Z3 Z4 Z5 Z6 ZK ZV]
    · iapply (all_sems c); iframe
    isplitl [HzB]; · iexact HzB
    isplitl [PkS HkR PvS HvR]
    · unfold kSPts vSPts
      isplitl [PkS HkR]
      · iapply ((pointsTo_split_subset (ℓ := (c : Thread nD τ).loc main_arg2) (f := kArg m ρ c) (Finset.subset_univ (kS c).view.set)).2)
        isplitl [PkS] <;> iassumption
      · iapply ((pointsTo_split_subset (ℓ := (c : Thread nD τ).loc main_arg3) (f := vArg m ρ c) (Finset.subset_univ (vS c).view.set)).2)
        isplitl [PvS] <;> iassumption
    isplitl [HGQ]; · iexists _; iexact HGQ
    isplitl [HGO]; · iexists _; iexact HGO
    isplitl [Pk]; · iexists _; iexact Pk
    iexists _; iexact Pv
  isplitl [HO]
  · iexists W2
    isplitr; · ipureintro; exact fun _ _ => Or.inl trivial
    iexact HO
  isplitl [Hx]
  · iexists _; isplitr; · (ipureintro; rfl)
    iexact Hx
  isplitl [Hwq]
  · iexists _; isplitr; · (ipureintro; rfl)
    iexact Hwq
  isplitl [Hwo]
  · iexists _; isplitr; · (ipureintro; rfl)
    iexact Hwo
  iexists _; isplitr; · (ipureintro; rfl)
  iexact Hout

def bodyPre' (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

set_option maxRecDepth 65536 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ (c : Thread nD τ) none) Set.univ
    (cc0_body (F := F) xM (Memref.isWhole_whole _) wqM (Memref.isWhole_whole _) kH (Memref.isWhole_whole _) vH (Memref.isWhole_whole _) woM (Memref.isWhole_whole _) outM (Memref.isWhole_whole _) aq (Memref.isWhole_whole _) ao (Memref.isWhole_whole _) kM (Memref.isWhole_whole _) vM (Memref.isWhole_whole _) cc0_scratch4 cc0_scratch5 cc0_scratch6 cc0_scratch7 cc0_scratch8) (fun _ => bodyPost m ρ c)
  unfold bodyPre' Φ₀ start
  iintro ⟨⟨⟨⟨%K, Hg⟩, Hrest⟩, Hscr⟩, Ho, Hws⟩
  iapply (sound_body m ρ K c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    iexact Hws
  · iintro H; iexact H

end Body

end Cert.KernelIdeal.Pf

end
-- ==== Proof.Launch.lean ====
/-
The launch: the ghost state dealt to the devices, and the run of the whole program.
-/
module

public import proofs.«01_k».proof.Proof.Body
public import Idealize.ShloMosaic.Lib.Pipeline.CollectiveSegs

@[expose] public section

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Option (Fin 30) → SemLoc sig) := by
  have hd : ∀ q q' : Fin 30, ds q = ds q' → q = q' := fun q q' h => Fin.ext (by have := congrArg Fin.val h; exact Nat.add_left_cancel this)
  rintro (_ | q) (_ | q') h
  · rfl
  · cases h
  · cases h
  · injection h with h; rw [hd q q' h]
theorem kcell_injective : Function.Injective (kcell : Key → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- A device's own cells' duty tokens as minted: its barrier's two, each DMA cell's `false`. -/
abbrev tokOf (cj : Dev nD × (Bool ⊕ Fin 30)) : GSem nD τ sig × ℕ × Bool := match cj.2 with
  | .inl b => (kcell (cj.1, none), 0, b) | .inr q => (kcell (cj.1, some q), 0, false)
theorem tokOf_injective : Function.Injective (tokOf : Dev nD × (Bool ⊕ Fin 30) → GSem nD τ sig × ℕ × Bool) := by
  rintro ⟨c, b | q⟩ ⟨c', b' | q'⟩ h
  · have h1 := kcell_injective (congrArg Prod.fst h)
    have h2 : b = b' := congrArg (fun x : GSem nD τ sig × ℕ × Bool => x.2.2) h
    rw [show c = c' from congrArg Prod.fst h1, h2]
  · have h1 := congrArg Prod.snd (kcell_injective (congrArg Prod.fst h)); cases h1
  · have h1 := congrArg Prod.snd (kcell_injective (congrArg Prod.fst h)); cases h1
  · have h1 := kcell_injective (congrArg Prod.fst h)
    rw [show c = c' from congrArg Prod.fst h1, show q = q' from Option.some.inj (congrArg Prod.snd h1)]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

theorem eq_of_ents {P Q : sProp 𝕄} (h : P ⊢ Q) (h' : Q ⊢ P) : P = Q := BI.equiv_iff.mp ⟨h, h'⟩

/-- The thirty DMA cells by what they are: the two local copies', and four of each hop. -/
theorem fin30_L (Φ : Fin 30 → sProp 𝕄) : bigSep Finset.univ Φ
    = iprop((Φ kI ∗ Φ vI) ∗ bigSep Finset.univ fun h : Fin 7 => iprop(Φ (sqI h) ∗ Φ (soI h) ∗ Φ (rqI h) ∗ Φ (roI h))) := by
  rw [bigSep_univ_eq_bigSepL [sqI 0, soI 0, rqI 0, roI 0, sqI 1, soI 1, rqI 1, roI 1, sqI 2, soI 2, rqI 2, roI 2, sqI 3, soI 3, rqI 3, roI 3, sqI 4, soI 4, rqI 4, roI 4, sqI 5, soI 5, rqI 5, roI 5, sqI 6, soI 6, rqI 6, roI 6, kI, vI] (by decide) (by decide), fin7_L]
  show iprop(Φ (sqI 0) ∗ Φ (soI 0) ∗ Φ (rqI 0) ∗ Φ (roI 0) ∗ Φ (sqI 1) ∗ Φ (soI 1) ∗ Φ (rqI 1) ∗ Φ (roI 1) ∗ Φ (sqI 2) ∗ Φ (soI 2) ∗ Φ (rqI 2) ∗ Φ (roI 2) ∗ Φ (sqI 3) ∗ Φ (soI 3) ∗ Φ (rqI 3) ∗ Φ (roI 3) ∗ Φ (sqI 4) ∗ Φ (soI 4) ∗ Φ (rqI 4) ∗ Φ (roI 4) ∗ Φ (sqI 5) ∗ Φ (soI 5) ∗ Φ (rqI 5) ∗ Φ (roI 5) ∗ Φ (sqI 6) ∗ Φ (soI 6) ∗ Φ (rqI 6) ∗ Φ (roI 6) ∗ Φ kI ∗ Φ vI) = _
  refine eq_of_ents ?_ ?_
  · iintro ⟨A0, B0, C0, D0, A1, B1, C1, D1, A2, B2, C2, D2, A3, B3, C3, D3, A4, B4, C4, D4, A5, B5, C5, D5, A6, B6, C6, D6, X, Y⟩
    iframe
  · iintro ⟨⟨X, Y⟩, ⟨A0, B0, C0, D0⟩, ⟨A1, B1, C1, D1⟩, ⟨A2, B2, C2, D2⟩, ⟨A3, B3, C3, D3⟩, ⟨A4, B4, C4, D4⟩, ⟨A5, B5, C5, D5⟩, ⟨A6, B6, C6, D6⟩⟩
    iframe

theorem sep_two (A B : sProp 𝕄) : iprop(A ∗ B) = iprop(B ∗ A) := by
  refine eq_of_ents ?_ ?_
  · iintro ⟨A, B⟩; iframe
  · iintro ⟨A, B⟩; iframe
theorem opt_L (Φ : Option (Fin 30) → sProp 𝕄) : bigSep Finset.univ Φ = iprop(Φ none ∗ bigSep Finset.univ fun q : Fin 30 => Φ (some q)) := by
  rw [bigSep_univ_equiv (Equiv.optionEquivSumPUnit.{0, 0} (Fin 30)).symm Φ, bigSep_univ_sum]
  have h : (bigSep Finset.univ fun b : PUnit => Φ ((Equiv.optionEquivSumPUnit.{0, 0} (Fin 30)).symm (.inr b))) = Φ none :=
    bigSep_univ_eq_bigSepL [PUnit.unit] (by decide) (by decide) _
  rw [h]
  exact sep_two _ _

/-- The duty tokens of device `c`'s own cells. -/
def toks (c : Dev nD) : sProp 𝕄 :=
  iprop(dutyTok ER (barCell c) 0 false ∗ dutyTok ER (barCell c) 0 true ∗ (dutyTok ER (dCell c kI) 0 false ∗ dutyTok ER (dCell c vI) 0 false)
    ∗ bigSep Finset.univ fun h : Fin 7 => iprop(dutyTok ER (dCell c (sqI h)) 0 false ∗ dutyTok ER (dCell c (soI h)) 0 false
      ∗ dutyTok ER (dCell c (rqI h)) 0 false ∗ dutyTok ER (dCell c (roI h)) 0 false))

/-- What the launch element deals device `c`. -/
def G (c : Dev nD) : sProp 𝕄 :=
  iprop((bigSep Finset.univ fun k : Option (Fin 30) => roundState ER (rd m ρ) (kcell (c, k)) 0)
    ∗ (bigSep Finset.univ fun k : Option (Fin 30) => iprop(atPos ER (kcell (c, k)) 0 ∅ 0 ∗ reached ER (kcell (c, k)) 0)) ∗ toks c)

/-- What the global step makes of it. -/
def G' (c : Dev nD) : sProp 𝕄 := iprop(∃ K, ghost m ρ K c)

theorem sep_four (A B C D : sProp 𝕄) : iprop((A ∗ B) ∗ C ∗ D) = iprop(A ∗ B ∗ C ∗ D) := by
  refine eq_of_ents ?_ ?_
  · iintro ⟨⟨A, B⟩, C, D⟩; iframe
  · iintro ⟨A, B, C, D⟩; iframe

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Option (Fin 30) => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, fin30_L, bigSep_univ_eq_bigSepL [false, true] (by decide) (by decide)]
    exact sep_four _ _ _ _
  iintro HX
  imod (Rounds.fund ER (rd m ρ) ringCells ringToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄)
    = bigSep Finset.univ fun q : Fin 30 => semVal (dCell c q) 0 := rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 30) => semVal (kcell (c, k)) 0 : sProp 𝕄) := by
  rw [ownSems0_eq, unscopedSems0_eq, opt_L]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option (Fin 30) => semVal (kcell (c, k)) 0) ∗ bigSep Finset.univ fun k : Option (Fin 30) => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Key → ℕ) (c : Dev nD) : iprop(records m ρ K ∗ linear c) ⊢ G' m ρ c := by
  unfold G' ghost
  iintro H
  iexists K
  iexact H

/-- A device's positions. -/
def poss (c : Dev nD) : sProp 𝕄 :=
  bigSep Finset.univ fun k : Option (Fin 30) => atPos ER (kcell (c, k)) 0 ∅ 0
/-- The tokens of the duties device `c` pays. -/
def payToks (c : Dev nD) : sProp 𝕄 :=
  iprop(dutyTok ER (barCell (nxt c)) 0 false ∗ dutyTok ER (barCell (prv c)) 0 true ∗ (dutyTok ER (dCell c kI) 0 false ∗ dutyTok ER (dCell c vI) 0 false)
    ∗ bigSep Finset.univ fun h : Fin 7 => iprop(dutyTok ER (dCell c (sqI h)) 0 false ∗ dutyTok ER (dCell c (soI h)) 0 false
      ∗ dutyTok ER (dCell (nxt c) (rqI h)) 0 false ∗ dutyTok ER (dCell (nxt c) (roI h)) 0 false))

theorem linear_intro (c : Dev nD) : iprop(poss c ∗ payToks c) ⊢ (linear c : sProp 𝕄) := by
  unfold poss payToks linear hopLin
  rw [opt_L, fin30_L]
  simp only [bigSep_sep']
  iintro ⟨⟨PB, ⟨PK, PV⟩, P1, P2, P3, P4⟩, TN, TP, ⟨TK, TV⟩, T1, T2, T3, T4⟩
  isplitl [PB TN TP TK TV PK PV]
  · isplitl [PB]; · iexact PB
    isplitl [TN]; · iexact TN
    isplitl [TP]; · iexact TP
    isplitl [TK]; · iexact TK
    isplitl [TV]; · iexact TV
    isplitl [PK]; · iexact PK
    iexact PV
  isplitl [T1]; · iexact T1
  isplitl [T2]; · iexact T2
  isplitl [T3]; · iexact T3
  isplitl [T4]; · iexact T4
  isplitl [P1]; · iexact P1
  isplitl [P2]; · iexact P2
  isplitl [P3]; · iexact P3
  iexact P4

/-- The tokens dealt around the ring: a barrier's `false` token one device down, its `true` token one device up, the receive
    tokens one device down. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (bigSep Finset.univ fun h : Fin 7 => (dutyTok ER (dCell c (rqI h)) 0 false : sProp 𝕄))),
    bigSep_univ_equiv ring (fun c : Dev nD => (bigSep Finset.univ fun h : Fin 7 => (dutyTok ER (dCell c (roI h)) 0 false : sProp 𝕄)))]
  iintro H
  iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Key => iprop(∃ κ : ℕ, cellInv ER (rd m ρ) κ (kcell ck))),
    bigSep_congr (s := Finset.univ) (fun (c : Dev nD) _ => bigSep_sep' Finset.univ (fun k : Option (Fin 30) => (atPos ER (kcell (c, k)) 0 ∅ 0 : sProp 𝕄)) (fun k => reached ER (kcell (c, k)) 0)),
    bigSep_sep', ← bigSep_univ_prod (fun ck : Key => (reached ER (kcell ck) 0 : sProp 𝕄))]
  iintro ⟨HI, ⟨Hat, #HR⟩, Htok⟩
  ihave HK := (BI.bigSep_exists_pi Finset.univ (fun (ck : Key) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => (poss c : sProp 𝕄)) payToks).symm).trans
      (bigSep_mono fun c _ => linear_intro c))
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_eq_iff {a b : Dev nD} : Iff (barCell a = barCell b) (a = b) :=
  ⟨fun h => Fin.ext (congrArg (fun g : GSem nD τ sig => g.1.1.val) h), fun h => h ▸ rfl⟩
theorem d_eq_iff {a b : Dev nD} {q q' : Fin 30} : Iff (dCell a q = dCell b q') (a = b ∧ q = q') :=
  ⟨fun h => ⟨congrArg Prod.fst (kcell_injective (a₁ := (a, some q)) (a₂ := (b, some q')) h),
    Option.some.inj (congrArg Prod.snd (kcell_injective (a₁ := (a, some q)) (a₂ := (b, some q')) h))⟩, fun h => by rw [h.1, h.2]⟩
theorem bar_ne_d (a b : Dev nD) (q : Fin 30) : barCell a ≠ dCell b q := fun h => dma_ne_bar _ (congrArg Prod.snd h).symm

theorem tally_pt (A : CellTallies nD τ sig Unit) (s g : GSem nD τ sig) (n : ℕ) :
    (A + tallyAt s () n) g () = A g () + if s = g then n else 0 := by
  rw [Pi.add_apply, Finsupp.add_apply, tallyAt_apply]
  by_cases h : s = g
  · rw [if_pos h, if_pos ⟨h.symm, rfl⟩]
  · rw [if_neg h, if_neg fun h' => h h'.1.symm]

theorem Or_bar (d c : Dev nD) (t : List (Fin 7)) : Or d t (barCell c) () = 0 := by
  induction t with
  | nil => rfl
  | cons h t ih => unfold Or; rw [tally_pt, tally_pt, if_neg (bar_ne_d _ _ _).symm, if_neg (bar_ne_d _ _ _).symm, ih]
theorem rq_ne_ro : ∀ h k : Fin 7, rqI h ≠ roI k := by decide
theorem rq_inj : ∀ h k : Fin 7, rqI h = rqI k → h = k := by decide
theorem ro_inj : ∀ h k : Fin 7, roI h = roI k → h = k := by decide
theorem Or_rq (d c : Dev nD) (h : Fin 7) (t : List (Fin 7)) : Or d t (dCell c (rqI h)) () = if d = prv c then NQ * t.count h else 0 := by
  induction t with
  | nil => simp only [List.count_nil, Nat.mul_zero, ite_self]; rfl
  | cons k t ih =>
    unfold Or; rw [tally_pt, tally_pt, ih, if_neg (fun e => rq_ne_ro _ _ (d_eq_iff.mp e).2.symm), List.count_cons]
    by_cases hc : d = prv c
    · subst hc
      rw [nxt_prv, if_pos rfl, if_pos rfl]
      by_cases hk : k = h
      · subst hk; rw [if_pos rfl, if_pos (beq_self_eq_true _), Nat.mul_add, Nat.mul_one]; try rfl
      · rw [if_neg (fun e => hk (rq_inj _ _ (d_eq_iff.mp e).2)), if_neg (fun e => hk (eq_of_beq e))]; try rfl
    · rw [if_neg hc, if_neg hc, if_neg (fun e => hc (by rw [← (d_eq_iff.mp e).1, prv_nxt]))]
theorem Or_ro (d c : Dev nD) (h : Fin 7) (t : List (Fin 7)) : Or d t (dCell c (roI h)) () = if d = prv c then NO * t.count h else 0 := by
  induction t with
  | nil => simp only [List.count_nil, Nat.mul_zero, ite_self]; rfl
  | cons k t ih =>
    unfold Or; rw [tally_pt, tally_pt, ih, if_neg (c := dCell (nxt d) (rqI k) = dCell c (roI h)) (fun e => rq_ne_ro _ _ (d_eq_iff.mp e).2), List.count_cons]
    by_cases hc : d = prv c
    · subst hc
      rw [nxt_prv, if_pos rfl, if_pos rfl]
      by_cases hk : k = h
      · subst hk; rw [if_pos rfl, if_pos (beq_self_eq_true _), Nat.mul_add, Nat.mul_one]; try rfl
      · rw [if_neg (fun e => hk (ro_inj _ _ (d_eq_iff.mp e).2)), if_neg (fun e => hk (eq_of_beq e))]; try rfl
    · rw [if_neg hc, if_neg hc, if_neg (fun e => hc (by rw [← (d_eq_iff.mp e).1, prv_nxt]))]
theorem hops_count (h : Fin 7) : hops.count h = 1 := by revert h; decide

theorem owed_bar (d c : Dev nD) : O₀ d (barCell c) () = (if d = prv c then 1 else 0) + (if d = nxt c then 1 else 0) := by
  unfold O₀ O₁
  rw [tally_pt, tally_pt, Or_bar, Nat.zero_add]
  congr 1
  · by_cases h : d = prv c
    · subst h; rw [nxt_prv, if_pos rfl, if_pos rfl]
    · rw [if_neg (fun e => h (by rw [← bar_eq_iff.mp e, prv_nxt])), if_neg h]
  · by_cases h : d = nxt c
    · subst h; rw [prv_nxt, if_pos rfl, if_pos rfl]
    · rw [if_neg (fun e => h (by rw [← bar_eq_iff.mp e, nxt_prv])), if_neg h]
theorem owed_rq (h : Fin 7) (d c : Dev nD) : O₀ d (dCell c (rqI h)) () = if d = prv c then NQ else 0 := by
  unfold O₀ O₁
  rw [tally_pt, tally_pt, if_neg (bar_ne_d _ _ _), if_neg (bar_ne_d _ _ _), Or_rq, hops_count, Nat.mul_one]; rfl
theorem owed_ro (h : Fin 7) (d c : Dev nD) : O₀ d (dCell c (roI h)) () = if d = prv c then NO else 0 := by
  unfold O₀ O₁
  rw [tally_pt, tally_pt, if_neg (bar_ne_d _ _ _), if_neg (bar_ne_d _ _ _), Or_ro, hops_count, Nat.mul_one]; rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_rq (c : Dev nD) (h : Fin 7) :
    tallyOn (dCell c (rqI h)) (launchCredit (Pipeline.owing O₀) 0 (dCell c (rqI h))) = (tallyAt (dCell c (rqI h)) () NQ : CellTallies nD τ sig Unit) := by
  unfold tallyAt; refine congrArg _ (Finsupp.ext fun u => ?_); cases u
  rw [Pipeline.launchCredit_owing, Finsupp.single_eq_same, Finset.sum_congr rfl fun d _ => owed_rq h d c, Finset.sum_ite_eq' Finset.univ (prv c) fun _ => NQ,
    if_pos (Finset.mem_univ _)]
theorem launch_ro (c : Dev nD) (h : Fin 7) :
    tallyOn (dCell c (roI h)) (launchCredit (Pipeline.owing O₀) 0 (dCell c (roI h))) = (tallyAt (dCell c (roI h)) () NO : CellTallies nD τ sig Unit) := by
  unfold tallyAt; refine congrArg _ (Finsupp.ext fun u => ?_); cases u
  rw [Pipeline.launchCredit_owing, Finsupp.single_eq_same, Finset.sum_congr rfl fun d _ => owed_ro h d c, Finset.sum_ite_eq' Finset.univ (prv c) fun _ => NO,
    if_pos (Finset.mem_univ _)]

theorem hopCred_intro (c : Dev nD) (h : Fin 7) : iprop(cred (tallyOn (dCell c (sqI h)) (launchCredit (Pipeline.owing O₀) 0 (dCell c (sqI h))))
      ∗ cred (tallyOn (dCell c (soI h)) (launchCredit (Pipeline.owing O₀) 0 (dCell c (soI h))))
      ∗ cred (tallyOn (dCell c (rqI h)) (launchCredit (Pipeline.owing O₀) 0 (dCell c (rqI h))))
      ∗ cred (tallyOn (dCell c (roI h)) (launchCredit (Pipeline.owing O₀) 0 (dCell c (roI h))))) ⊢ (hopCred c h : sProp 𝕄) := by
  rw [launch_rq, launch_ro]; unfold hopCred
  iintro ⟨-, -, H1, H2⟩
  isplitl [H1] <;> iassumption
theorem creds_intro (c : Dev nD) : (Pipeline.launchCred O₀ c : sProp 𝕄) ⊢ creds c := by
  have hm : (bigSep Finset.univ fun h : Fin 7 => iprop(cred (tallyOn (dCell c (sqI h)) (launchCredit (Pipeline.owing O₀) 0 (dCell c (sqI h))))
      ∗ cred (tallyOn (dCell c (soI h)) (launchCredit (Pipeline.owing O₀) 0 (dCell c (soI h))))
      ∗ cred (tallyOn (dCell c (rqI h)) (launchCredit (Pipeline.owing O₀) 0 (dCell c (rqI h))))
      ∗ cred (tallyOn (dCell c (roI h)) (launchCredit (Pipeline.owing O₀) 0 (dCell c (roI h))))) : sProp 𝕄) ⊢ bigSep Finset.univ fun h : Fin 7 => hopCred c h :=
    bigSep_mono fun h _ => hopCred_intro c h
  unfold Pipeline.launchCred
  refine (bigSep_subset (t := Finset.univ.map ⟨csem, csem_injective⟩) (Finset.subset_univ _)).trans ?_
  rw [bigSep_map, opt_L, fin30_L]
  show iprop(cred (tallyOn (barCell c) (launchCredit (Pipeline.owing O₀) 0 (barCell c))) ∗ _
    ∗ bigSep Finset.univ fun h : Fin 7 => iprop(cred (tallyOn (dCell c (sqI h)) (launchCredit (Pipeline.owing O₀) 0 (dCell c (sqI h)))) ∗ cred (tallyOn (dCell c (soI h)) (launchCredit (Pipeline.owing O₀) 0 (dCell c (soI h)))) ∗ cred (tallyOn (dCell c (rqI h)) (launchCredit (Pipeline.owing O₀) 0 (dCell c (rqI h))))
      ∗ cred (tallyOn (dCell c (roI h)) (launchCredit (Pipeline.owing O₀) 0 (dCell c (roI h)))))) ⊢ _
  rw [launch_bar]
  unfold creds
  iintro ⟨HB, -, HH⟩
  isplitl [HB]; · iexact HB
  iapply hm
  iexact HH

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨Hkv, Hlev, Hcr, -, HG⟩
  ihave Hc := (creds_intro (F := F) c) $$ Hcr
  imodintro
  unfold start G' kvArgs
  isplitl
  · isplitl [HG]; · iexact HG
    isplitl [Hc]; · iexact Hc
    isplitl [Hlev]; · iexact Hlev
    iexact Hkv
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop((unscopedSems0 c ∗ kvArgs m ρ c) ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ scr
  iintro ⟨HS, HB, Hkv, Hr⟩
  isplitl [HB Hkv]
  · isplitl [HB] <;> iassumption
  isplitl [HS]; · iexact HS
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = kArg m ρ c ∧ r.2.mem ((c : Thread nD τ).loc main_arg3) = vArg m ρ c

theorem kv_read (c : Dev nD) (s' : Phys nD τ sig (Elt F)) :
    iprop(kvArgs m ρ c ∗ SI s') ⊢ (iprop(⌜s'.mem.mem ((c : Thread nD τ).loc main_arg2) = kArg m ρ c ∧ s'.mem.mem ((c : Thread nD τ).loc main_arg3) = vArg m ρ c⌝ ∗ SI s') : sProp 𝕄) := by
  have h := pointsTo_read_all (Ix := Unit) (Name := ℕ) (U := UU) (Lvl := ℕ) ({main_arg2, main_arg3} : Finset (Ref sig .tc)) (fun b => (c : Thread nD τ).loc b) (fun b => (s₀ m ρ).mem ((c : Thread nD τ).loc b)) s'
  rw [bigSep_eq_bigSepL_of_eq [main_arg2, main_arg3] (by decide) (by decide)] at h
  unfold kvArgs
  refine (show _ ⊢ _ from h).trans ?_
  iintro ⟨%h, HSI⟩
  isplitr
  · ipureintro; exact ⟨h _ (by decide), h _ (by decide)⟩
  · iexact HSI

set_option maxRecDepth 8000 in
/-- For any float values, from any memory with zero counters: every weakly fair execution of @main on the eight devices
    terminates, and every final state has each device's result array at the computed contents, the arguments unchanged
    and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => iprop(unscopedSems0 c ∗ kvArgs m ρ c)) (Z := fun _ => iprop(emp))
    (hX := start_intro m ρ) (hin := phi0_intro m ρ) (hout := phi1_exit m ρ)
    (QY := fun c s => (s.mem ((c : Thread nD τ).loc main_arg2) = kArg m ρ c ∧ s.mem ((c : Thread nD τ).loc main_arg3) = vArg m ρ c)
      ∧ ∀ sm : SemLoc sig, sm.isScoped .tc = false → s.sem ((c.tc : Thread nD τ), sm) = 0)
    (hY := fun c s' => by
      iintro ⟨⟨Hu, Hkv⟩, -, HSI⟩
      ihave H := (kv_read m ρ c s') $$ [Hkv HSI]
      · isplitl [Hkv] <;> iassumption
      icases H with ⟨%hkv, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hkv, hs⟩
      · iexact HSI)
    (hQ := fun _ h hs => ⟨fun c => ⟨(h c).1, (h c).2.2.1⟩, sem_eq_zero hs fun c => (h c).2.2.2⟩)

/-- The argument arrays in windows hold what they held. -/
theorem finalA_in (c : Dev nD) (w : Fin 4) (h : (cfg0.win w).isOut = false) : finalA m ρ c w = (s₀ m ρ).mem ((cfg0.win w).arr.view.loc (c : Thread nD τ)) :=
  (dats (F := F) m ρ 0 c).arrAt_in w h _

end Cert.KernelIdeal.Pf

end
-- ==== Proof.Softmax.lean ====
/-
A masked softmax over a row that holds a shorter row and minus infinity elsewhere is the shorter row's masked softmax.
-/
module

public import Idealize.ShloMosaic.PureOps.Ideal
public import Idealize.ShloMosaic.Lib.Pointwise

@[expose] public section

noncomputable section

namespace Cert.Attn

open Idealize.ShloMosaic
open scoped BigOperators

/-- The greatest of a row, minus infinity for none. -/
def top {n : ℕ} (f : Fin n → EReal) : EReal := Finset.univ.fold max ⊥ f

/-- The weighted sum of `v` by the softmax of the row `f`. -/
def smx {n : ℕ} (f v : Fin n → EReal) : EReal :=
  ∑ j, Ideal.div (Ideal.exp (f j - top f)) (∑ k, Ideal.exp (f k - top f)) * v j

theorem top_eq_sup {n : ℕ} (f : Fin n → EReal) : top f = Finset.univ.sup f := rfl

theorem le_top' {n : ℕ} (f : Fin n → EReal) (j : Fin n) : f j ≤ top f := by
  rw [top_eq_sup]; exact Finset.le_sup (Finset.mem_univ j)

/-- A row of reals and minus infinities, not all minus infinity, has a real maximum that it attains. -/
theorem top_real {n : ℕ} (f : Fin n → EReal) (h : ∀ j, f j ≠ ⊤) (j₀ : Fin n) (h₀ : f j₀ ≠ ⊥) :
    ∃ j, f j = top f ∧ top f ≠ ⊤ ∧ top f ≠ ⊥ := by
  obtain ⟨j, -, hj⟩ := Finset.exists_mem_eq_sup Finset.univ ⟨j₀, Finset.mem_univ j₀⟩ f
  have e : top f = f j := hj
  refine ⟨j, e.symm, e ▸ h j, fun hb => h₀ ?_⟩
  exact le_bot_iff.mp (hb ▸ le_top' f j₀)

theorem exp_nonneg (x : EReal) : 0 ≤ Ideal.exp x := by
  induction x with
  | bot => simp
  | top => simp
  | coe r => simp only [Ideal.exp_coe]; exact_mod_cast (Real.exp_pos r).le

theorem sub_self_real {x : EReal} (h : x ≠ ⊤) (h' : x ≠ ⊥) : x - x = 0 := by
  lift x to ℝ using ⟨h, h'⟩; norm_cast; simp

theorem bot_sub_real {x : EReal} : (⊥ : EReal) - x = ⊥ := by
  rw [sub_eq_add_neg, EReal.bot_add]

theorem smx_extend {n N : ℕ} (e : Fin n ↪ Fin N) (f : Fin n → EReal) (g v : Fin N → EReal)
    (hg : ∀ j, g (e j) = f j) (hb : ∀ k, k ∉ Set.range e → g k = ⊥)
    (h : ∀ j, f j ≠ ⊤) (j₀ : Fin n) (h₀ : f j₀ ≠ ⊥) :
    smx g v = smx f (fun j => v (e j)) := by
  have ht : top g = top f := by
    rw [top_eq_sup, top_eq_sup]
    apply le_antisymm
    · refine Finset.sup_le fun k _ => ?_
      by_cases hk : k ∈ Set.range e
      · obtain ⟨j, rfl⟩ := hk
        rw [hg]; exact Finset.le_sup (f := f) (Finset.mem_univ j)
      · rw [hb k hk]; exact bot_le
    · refine Finset.sup_le fun j _ => ?_
      rw [← hg]; exact Finset.le_sup (f := g) (Finset.mem_univ (e j))
  obtain ⟨j₁, e₁, hT, hB⟩ := top_real f h j₀ h₀
  have key : ∀ (F : Fin N → EReal), (∀ k, k ∉ Set.range e → F k = 0) → ∑ k, F k = ∑ j, F (e j) := by
    intro F hF
    rw [← Finset.sum_map Finset.univ e F]
    symm
    apply Finset.sum_subset (Finset.subset_univ _)
    intro k _ hk
    apply hF
    rintro ⟨j, rfl⟩
    exact hk (Finset.mem_map_of_mem e (Finset.mem_univ j))
  have hz : ∀ k, k ∉ Set.range e → Ideal.exp (g k - top f) = 0 := by
    intro k hk
    rw [hb k hk, bot_sub_real, Ideal.exp_bot]
  have hs : ∑ k, Ideal.exp (g k - top f) = ∑ j, Ideal.exp (f j - top f) := by
    rw [key _ hz]
    simp only [hg]
  have hne : ∑ j, Ideal.exp (f j - top f) ≠ 0 := by
    have h1 : Ideal.exp (f j₁ - top f) = 1 := by
      rw [e₁, sub_self_real hT hB]
      show Ideal.exp ((0 : ℝ) : EReal) = 1
      rw [Ideal.exp_coe, Real.exp_zero]; rfl
    have := Finset.single_le_sum (f := fun j => Ideal.exp (f j - top f)) (fun j _ => exp_nonneg _) (Finset.mem_univ j₁)
    simp only [h1] at this
    intro h0
    rw [h0] at this
    exact absurd this (by norm_num)
  unfold smx
  rw [ht, hs, key]
  · simp only [hg]
  · intro k hk
    rw [hz k hk, Ideal.div, if_neg hne, zero_mul, zero_mul]

theorem ofBits_ninf : Ideal.ofBits .f32 0xFF800000#32 = ⊥ := by
  simp [Ideal.ofBits, Ideal.ieee]

/-- The scale of the scores, one eighth. -/
def c8 : EReal := Ideal.ofBits .f32 0x3E000000#32

section

variable (A0 : (⟨3, ![16, 128, 512]⟩ : Shape).Idx → EReal) (A1 : (⟨2, ![512, 2048]⟩ : Shape).Idx → EReal)
variable (A2 A3 : (⟨4, ![16, 128, 32, 64]⟩ : Shape).Idx → EReal) (A4 : (⟨2, ![2048, 512]⟩ : Shape).Idx → EReal)

/-- The query of batch `B`, row `i`, at column `t` of the 2048. -/
def qv (B : Fin 16) (i : Fin 128) (t : Fin 2048) : EReal := ∑ d : Fin 512, A0 (ix3 B i d) * A1 (ix2 d t)

/-- Column `e` of head `h` among the 2048. -/
def hcol (h : Fin 32) (e : Fin 64) : Fin 2048 := ⟨h.val * 64 + e.val, by omega⟩

/-- The masked score of rows `i` and `j` in head `h`. -/
def sc (B : Fin 16) (h : Fin 32) (i j : Fin 128) : EReal :=
  if i.val / 64 = j.val / 64 then (∑ e : Fin 64, qv A0 A1 B i (hcol h e) * A2 (ix4 B j h e)) * c8 else ⊥

/-- The context of head `h` at row `i` and column `e`. -/
def ctx (B : Fin 16) (h : Fin 32) (i : Fin 128) (e : Fin 64) : EReal :=
  smx (fun j => sc A0 A1 A2 B h i j) (fun j => A3 (ix4 B j h e))

/-- The output. -/
def outS (B : Fin 16) (i : Fin 128) (n : Fin 512) : EReal :=
  ∑ t : Fin 2048, ctx A0 A1 A2 A3 B ⟨t.val / 64, by omega⟩ i ⟨t.val % 64, by omega⟩ * A4 (ix2 t n)

end

end Cert.Attn

end
-- ==== Proof.Mask.lean ====
/-
The mask of the body, read at an index: two of the 256 rows see each other when they lie in one block of 64.
-/
module

public import proofs.«01_k».proof.Proof.Compute
public import proofs.«01_k».proof.Proof.Softmax

@[expose] public section

set_option maxRecDepth 16384

noncomputable section

namespace Cert.KernelIdeal.Pf

open Cert.KernelIdeal Cert.KernelIdeal.Gen Cert.Attn

open Idealize.ShloMosaic
open Idealize.ShloMosaic.TcCoe
open scoped BigOperators

/-- The rows' numbers and the columns'. -/
abbrev io0 : IVec S256x256 32 := iota .tc S256x256 32 [0] iota_S256x256_d0_w32
abbrev io1 : IVec S256x256 32 := iota .tc S256x256 32 [1] iota_S256x256_d1_w32
abbrev w128 : BitVec 32 := Scalar.select (Scalar.cmpi .eq 128#32 0#32) 1#32 128#32
abbrev mkI : IVec S256x256 1 := maskOf io0 io1 w128

/-- The block of 64 within a batch that a row, and that a column, lies in. -/
abbrev rowB : IVec S256x256 32 := k0_pay5 io0 w128
abbrev colB : IVec S256x256 32 := k0_pay9 w128 (k0_pay6 io1) (k0_pay7 io1) k0_pay8

theorem rowB_col (r j : Fin 256) : rowB (ix2 r j) = rowB (ix2 r 0) := by
  unfold rowB k0_pay5
  pointwise
theorem colB_row (r j : Fin 256) : colB (ix2 r j) = colB (ix2 0 j) := by
  unfold colB k0_pay9 k0_pay7 k0_pay8 k0_pay6
  pointwise
theorem rowB_at0 : ∀ r : Fin 256, rowB (ix2 r 0) = BitVec.ofNat 32 (r.val % 128 / 64) := by decide +kernel
theorem colB_at0 : ∀ r : Fin 256, colB (ix2 0 r) = BitVec.ofNat 32 (r.val % 128 / 64) := by decide +kernel

/-- Whether row and column lie in one batch. -/
abbrev batI : IVec S256x256 1 := k0_pay12 io0 io1 128#32 (k0_pay10 io0) (k0_pay11 io0) (Scalar.subi (Scalar.extui (Scalar.cmpi .sgt 128#32 0#32)) (Scalar.extui (Scalar.cmpi .slt 128#32 0#32)))

/-- Floor division by 128, as the body computes it. -/
def fd128 (z : BitVec 32) : BitVec 32 :=
  Scalar.select
    (IntOp.andi
      (IntOp.cmpi .ne
        (IntOp.subi (BitVec.setWidth 32 (IntOp.cmpi .sgt z 0#32)) (BitVec.setWidth 32 (IntOp.cmpi .slt z 0#32)))
        (Scalar.subi (Scalar.extui (Scalar.cmpi .sgt 128#32 0#32)) (Scalar.extui (Scalar.cmpi .slt 128#32 0#32))))
      (IntOp.cmpi .ne (IntOp.remsi ArithUnit.vector z 128#32) 0#32))
    (IntOp.subi (IntOp.divsi ArithUnit.vector z 128#32) 1#32)
    (IntOp.divsi ArithUnit.vector z 128#32)

theorem fd128_at : ∀ r : Fin 256, fd128 (BitVec.ofNat 32 r.val) = BitVec.ofNat 32 (r.val / 128) := by decide +kernel

theorem cmp_lt2 {a b : ℕ} (ha : a < 2) (hb : b < 2) : IntOp.cmpi .eq (BitVec.ofNat 32 a) (BitVec.ofNat 32 b) = BitVec.ofBool (decide (a = b)) := by
  interval_cases a <;> interval_cases b <;> decide

theorem batI_at (r j : Fin 256) : batI (ix2 r j) = BitVec.ofBool (decide (r.val / 128 = j.val / 128)) := by
  unfold batI k0_pay12 k0_pay10 k0_pay11
  pointwise
  refine (congrArg₂ (IntOp.cmpi .eq) (fd128_at r) (fd128_at j)).trans (cmp_lt2 (by omega) (by omega))

theorem mkI_at (r j : Fin 256) : mkI (ix2 r j) = BitVec.ofBool (decide (r.val / 64 = j.val / 64)) := by
  have e : mkI = k0_pay17 rowB batI (k0_pay13 rowB colB) (Scalar.select (Scalar.cmpi .eq 4#32 0#32) 1#32 4#32) (k0_pay14 colB) (k0_pay15 colB) (k0_pay16 colB)
    (Scalar.cmpi .slt (Scalar.select (Scalar.cmpi .eq 4#32 0#32) 1#32 4#32) 0#32) := rfl
  rw [e]
  have h0 := batI_at r j
  have h1 := (rowB_col r j).trans (rowB_at0 r)
  have h2 := (colB_row r j).trans (colB_at0 j)
  generalize batI = X at *
  generalize rowB = Y at *
  generalize colB = Z at *
  unfold k0_pay17 k0_pay13 k0_pay15 k0_pay16 k0_pay14
  pointwise
  rw [h0, h1, h2]
  have ha : r.val % 128 / 64 < 2 := by omega
  have hb : j.val % 128 / 64 < 2 := by omega
  have hd : decide (r.val / 64 = j.val / 64) = (decide (r.val / 128 = j.val / 128) && decide (r.val % 128 / 64 = j.val % 128 / 64)) := by
    rw [← Bool.decide_and]; apply decide_eq_decide.mpr; omega
  rw [hd]
  generalize decide (r.val / 128 = j.val / 128) = p
  generalize r.val % 128 / 64 = a at *
  generalize j.val % 128 / 64 = b at *
  interval_cases a <;> interval_cases b <;> cases p <;> decide

end Cert.KernelIdeal.Pf

end
-- ==== Proof.KValue.lean ====
/-
What the body stores, read at an index: the same contraction of the same masked softmax attention as the reference's.
-/
module

public import proofs.«01_k».proof.Proof.Mask

@[expose] public section

set_option maxRecDepth 16384

noncomputable section

namespace Cert.KernelIdeal.Pf

open Cert.KernelIdeal Cert.KernelIdeal.Gen Cert.Attn

open Idealize.ShloMosaic
open Idealize.ShloMosaic.TcCoe
open scoped BigOperators

theorem att_at (mk : IVec S256x256 1) (a : FVec Ideal S256x64 .bf16) (k v : Vec Ideal S2x128x1x64 .f32) (r : Fin 256) (d : Fin 64) :
    att (F := Ideal) mk a k v (ix2 r d) = smx (fun j : Fin 256 => if mk (ix2 r j) = 1#1 then
        (∑ e : Fin 64, a (ix2 r e) * k (ix4 ⟨j.val / 128, by omega⟩ ⟨j.val % 128, by omega⟩ 0 e)) * c8 else ⊥)
      (fun j => v (ix4 ⟨j.val / 128, by omega⟩ ⟨j.val % 128, by omega⟩ 0 d)) := by
  unfold att k0_pay23 k0_pay21 k0_pay22 smx top
  pointwise
  rw [ofBits_ninf]
  rfl

theorem pay19_at (x : FVec Ideal S256x512 .bf16) (q : Vec Ideal S1x512x256 .bf16) (r t : Fin 256) :
    k0_pay19 (F := Ideal) x q (ix2 r t) = ∑ d : Fin 512, x (ix2 r d) * q (ix3 0 d t) := by
  unfold k0_pay19
  pointwise

theorem hd0_at (w : FVec Ideal S256x256 .f32) (r : Fin 256) (e : Fin 64) : hd0 w (ix2 r e) = w (ix2 r ⟨e.val, by omega⟩) := by
  unfold hd0
  pointwise
theorem hd1_at (w : FVec Ideal S256x256 .f32) (r : Fin 256) (e : Fin 64) : hd1 w (ix2 r e) = w (ix2 r ⟨64 + e.val, by omega⟩) := by
  unfold hd1
  pointwise
theorem hd2_at (w : FVec Ideal S256x256 .f32) (r : Fin 256) (e : Fin 64) : hd2 w (ix2 r e) = w (ix2 r ⟨128 + e.val, by omega⟩) := by
  unfold hd2
  pointwise
theorem hd3_at (w : FVec Ideal S256x256 .f32) (r : Fin 256) (e : Fin 64) : hd3 w (ix2 r e) = w (ix2 r ⟨192 + e.val, by omega⟩) := by
  unfold hd3
  pointwise

theorem blkCtx_at (mk : IVec S256x256 1) (w : FVec Ideal S256x256 .f32) (k0 v0 k1 v1 k2 v2 k3 v3 : Vec Ideal S2x128x1x64 .f32) (r t : Fin 256) :
    blkCtx mk w k0 v0 k1 v1 k2 v2 k3 v3 (ix2 r t) =
      if h : t.val < 64 then att mk (hd0 w) k0 v0 (ix2 r ⟨t.val, h⟩)
      else if h : t.val - 64 < 64 then att mk (hd1 w) k1 v1 (ix2 r ⟨t.val - 64, h⟩)
      else if h : t.val - 64 - 64 < 64 then att mk (hd2 w) k2 v2 (ix2 r ⟨t.val - 64 - 64, h⟩)
      else att mk (hd3 w) k3 v3 (ix2 r ⟨t.val - 64 - 64 - 64, by omega⟩) := by
  unfold blkCtx
  pointwise

theorem blkStep_at (mk : IVec S256x256 1) (x : FVec Ideal S256x512 .bf16) (acc : FVec Ideal S256x512 .f32) (q : Vec Ideal S1x512x256 .bf16)
    (k0 v0 k1 v1 k2 v2 k3 v3 : Vec Ideal S2x128x1x64 .f32) (o : Vec Ideal S1x256x512 .bf16) (r : Fin 256) (n : Fin 512) :
    blkStep mk x acc q k0 v0 k1 v1 k2 v2 k3 v3 o (ix2 r n) = acc (ix2 r n) + ∑ t : Fin 256, blkCtx mk (k0_pay19 x q) k0 v0 k1 v1 k2 v2 k3 v3 (ix2 r t) * o (ix3 0 t n) := by
  unfold blkStep
  pointwise

theorem outOf_at (mk : IVec S256x256 1) (x : FVec Ideal S256x512 .bf16)
   (fq : (cc0_scratch0 : Ref sig .tc).ty.Contents (Elt Ideal)) (fo : (cc0_scratch1 : Ref sig .tc).ty.Contents (Elt Ideal))
   (fk : (cc0_scratch2 : Ref sig .tc).ty.Contents (Elt Ideal)) (fv : (cc0_scratch3 : Ref sig .tc).ty.Contents (Elt Ideal))
   (b : Fin 2) (i : Fin 128) (n : Fin 512) : outOf mk x fq fo fk fv (ix3 b i n) = accAll mk x fq fo fk fv (ix2 ⟨b.val * 128 + i.val, by omega⟩ n) := by
  unfold outOf
  pointwise

/-- A row of one of the two batches among the 256. -/
def row (b : Fin 2) (i : Fin 128) : Fin 256 := ⟨b.val * 128 + i.val, by omega⟩
/-- The batches' number among the sixteen, of device `c`. -/
def bat (c : Fin 8) (b : Fin 2) : Fin 16 := ⟨c.val * 2 + b.val, by omega⟩
/-- Column `t` of block `b` among the 2048. -/
def bcol (b : Fin 8) (t : Fin 256) : Fin 2048 := ⟨b.val * 256 + t.val, by omega⟩

/-- The rows of batch `b` among the 256. -/
def rowE (b : Fin 2) : Fin 128 ↪ Fin 256 := ⟨row b, fun i j h => by
  have := congrArg Fin.val h; simp only [row] at this; exact Fin.ext (by omega)⟩

section

variable (A0 : (⟨3, ![16, 128, 512]⟩ : Shape).Idx → EReal) (A1 : (⟨2, ![512, 2048]⟩ : Shape).Idx → EReal)
variable (A2 A3 : (⟨4, ![16, 128, 32, 64]⟩ : Shape).Idx → EReal) (A4 : (⟨2, ![2048, 512]⟩ : Shape).Idx → EReal)

/-- One head's 256-row attention is that head's context, the scores being real. -/
theorem att_ctx (B : Fin 16) (h : Fin 32) (b : Fin 2) (i : Fin 128) (d : Fin 64)
    (a : FVec Ideal S256x64 .bf16) (k v : Vec Ideal S2x128x1x64 .f32)
    (ha : ∀ e, a (ix2 (row b i) e) = qv A0 A1 B i (hcol h e))
    (hk : ∀ j e, k (ix4 b j 0 e) = A2 (ix4 B j h e))
    (hv : ∀ j e, v (ix4 b j 0 e) = A3 (ix4 B j h e))
    (hT : ∀ j, sc A0 A1 A2 B h i j ≠ ⊤) (hB : sc A0 A1 A2 B h i i ≠ ⊥) :
    att (F := Ideal) mkI a k v (ix2 (row b i) d) = ctx A0 A1 A2 A3 B h i d := by
  have hdiv : ∀ j : Fin 128, (⟨(row b j).val / 128, by omega⟩ : Fin 2) = b := fun j => Fin.ext (by simp only [row]; omega)
  have hmod : ∀ j : Fin 128, (⟨(row b j).val % 128, by omega⟩ : Fin 128) = j := fun j => Fin.ext (by simp only [row]; omega)
  rw [att_at, smx_extend (rowE b) (fun j => sc A0 A1 A2 B h i j) _ _ ?_ ?_ hT i hB]
  · unfold ctx
    congr 1
    funext j
    show v (ix4 ⟨(row b j).val / 128, _⟩ ⟨(row b j).val % 128, _⟩ 0 d) = _
    rw [hdiv, hmod, hv]
  · intro j
    show (if mkI (ix2 (row b i) (row b j)) = 1#1 then (∑ e : Fin 64, a (ix2 (row b i) e) * k (ix4 ⟨(row b j).val / 128, _⟩ ⟨(row b j).val % 128, _⟩ 0 e)) * c8 else ⊥) = _
    rw [mkI_at, hdiv, hmod]
    simp only [ha, hk]
    unfold sc
    by_cases hh : i.val / 64 = j.val / 64
    · rw [if_pos hh, if_pos]
      have : (row b i).val / 64 = (row b j).val / 64 := by simp only [row]; omega
      rw [decide_eq_true this]; rfl
    · rw [if_neg hh, if_neg]
      have : ¬ (row b i).val / 64 = (row b j).val / 64 := by simp only [row]; omega
      rw [decide_eq_false this]; decide
  · intro j hj
    have : ¬ (row b i).val / 64 = j.val / 64 := by
      intro he
      apply hj
      refine ⟨⟨j.val % 128, by omega⟩, Fin.ext ?_⟩
      simp only [row] at he
      show b.val * 128 + j.val % 128 = j.val
      omega
    rw [mkI_at, decide_eq_false this]
    exact if_neg (by decide)

variable (c : Fin 8)
variable (x : FVec Ideal S256x512 .bf16)
variable (fq : (cc0_scratch0 : Ref sig .tc).ty.Contents (Elt Ideal)) (fo : (cc0_scratch1 : Ref sig .tc).ty.Contents (Elt Ideal))
variable (fk : (cc0_scratch2 : Ref sig .tc).ty.Contents (Elt Ideal)) (fv : (cc0_scratch3 : Ref sig .tc).ty.Contents (Elt Ideal))

/-- The term of column `t` in the output's contraction. -/
def term (B : Fin 16) (i : Fin 128) (n : Fin 512) (t : Fin 2048) : EReal :=
  ctx A0 A1 A2 A3 B ⟨t.val / 64, by omega⟩ i ⟨t.val % 64, by omega⟩ * A4 (ix2 t n)

/-- The buffers hold the arrays' parts, and the scores are real. -/
structure Holds : Prop where
  hx : ∀ b i d, x (ix2 (row b i) d) = A0 (ix3 (bat c b) i d)
  hq : ∀ b d t, LQ fq b (ix3 0 d t) = A1 (ix2 d (bcol b t))
  ho : ∀ b t n, LO fo b (ix3 0 t n) = A4 (ix2 (bcol b t) n)
  hk : ∀ j b i e, LK fk j (ix4 b i 0 e) = A2 (ix4 (bat c b) i j e)
  hv : ∀ j b i e, LV fv j (ix4 b i 0 e) = A3 (ix4 (bat c b) i j e)
  hT : ∀ B h i j, sc A0 A1 A2 B h i j ≠ ⊤
  hB : ∀ B h i, sc A0 A1 A2 B h i i ≠ ⊥

variable {A0 A1 A2 A3 A4 c x fq fo fk fv}
variable (H : Holds A0 A1 A2 A3 A4 c x fq fo fk fv)

include H

theorem pay19_qv (blk : Fin 8) (b : Fin 2) (i : Fin 128) (t : Fin 256) :
    k0_pay19 (F := Ideal) x (LQ fq blk) (ix2 (row b i) t) = qv A0 A1 (bat c b) i (bcol blk t) := by
  rw [pay19_at]; unfold qv
  exact Finset.sum_congr rfl fun d _ => by rw [H.hx, H.hq]

theorem stepAt_at (blk : Fin 8) (j0 j1 j2 j3 : Fin 32) (h0 : j0.val = 4 * blk.val) (h1 : j1.val = 4 * blk.val + 1)
    (h2 : j2.val = 4 * blk.val + 2) (h3 : j3.val = 4 * blk.val + 3) (acc : FVec Ideal S256x512 .f32) (b : Fin 2) (i : Fin 128) (n : Fin 512) :
    stepAt mkI x fq fo fk fv blk j0 j1 j2 j3 acc (ix2 (row b i) n)
      = acc (ix2 (row b i) n) + ∑ t : Fin 256, term A0 A1 A2 A3 A4 (bat c b) i n (bcol blk t) := by
  unfold stepAt
  rw [blkStep_at]
  congr 1
  refine Finset.sum_congr rfl fun t _ => ?_
  unfold term
  rw [H.ho, blkCtx_at]
  congr 1
  have go : ∀ (j : Fin 32) (e : Fin 64) (a : FVec Ideal S256x64 .bf16), j.val = (bcol blk t).val / 64 → e.val = (bcol blk t).val % 64 →
      (∀ e, a (ix2 (row b i) e) = qv A0 A1 (bat c b) i (hcol j e)) →
      att (F := Ideal) mkI a (LK fk j) (LV fv j) (ix2 (row b i) e) = ctx A0 A1 A2 A3 (bat c b) ⟨(bcol blk t).val / 64, by omega⟩ i ⟨(bcol blk t).val % 64, by omega⟩ := by
    intro j e a hj he ha
    rw [att_ctx A0 A1 A2 A3 (bat c b) j b i e a _ _ ha (fun i e => H.hk j b i e) (fun i e => H.hv j b i e) (fun j' => H.hT _ _ _ j') (H.hB _ _ _)]
    congr 1
    · exact Fin.ext hj
    · exact Fin.ext he
  split
  · refine go _ _ _ (by simp only [bcol]; omega) (by simp only [bcol]; omega) fun e => ?_
    rw [hd0_at, pay19_qv H]; congr 1; exact Fin.ext (by simp only [bcol, hcol]; omega)
  split
  · refine go _ _ _ (by simp only [bcol]; omega) (by simp only [bcol]; omega) fun e => ?_
    rw [hd1_at, pay19_qv H]; congr 1; exact Fin.ext (by simp only [bcol, hcol]; omega)
  split
  · refine go _ _ _ (by simp only [bcol]; omega) (by simp only [bcol]; omega) fun e => ?_
    rw [hd2_at, pay19_qv H]; congr 1; exact Fin.ext (by simp only [bcol, hcol]; omega)
  · refine go _ _ _ (by simp only [bcol]; omega) (by simp only [bcol]; omega) fun e => ?_
    rw [hd3_at, pay19_qv H]; congr 1; exact Fin.ext (by simp only [bcol, hcol]; omega)

omit H in
/-- A sum over the 2048 columns, block by block. -/
theorem sum_blocks (f : Fin 2048 → EReal) : ∑ t, f t = ∑ b : Fin 8, ∑ t : Fin 256, f (bcol b t) := by
  rw [← Fintype.sum_prod_type' (f := fun (b : Fin 8) (t : Fin 256) => f (bcol b t)), ← (finProdFinEquiv (m := 8) (n := 256)).sum_comp f]
  refine Finset.sum_congr rfl fun p _ => congrArg f (Fin.ext ?_)
  simp only [finProdFinEquiv_apply_val, bcol]
  omega

theorem outOf_outS (b : Fin 2) (i : Fin 128) (n : Fin 512) :
    outOf mkI x fq fo fk fv (ix3 b i n) = outS A0 A1 A2 A3 A4 (bat c b) i n := by
  rw [outOf_at]
  show accAll mkI x fq fo fk fv (ix2 (row b i) n) = ∑ t, term A0 A1 A2 A3 A4 (bat c b) i n t
  unfold accAll
  rw [stepAt_at H 7 28 29 30 31 rfl rfl rfl rfl, stepAt_at H 6 24 25 26 27 rfl rfl rfl rfl, stepAt_at H 5 20 21 22 23 rfl rfl rfl rfl,
    stepAt_at H 4 16 17 18 19 rfl rfl rfl rfl, stepAt_at H 3 12 13 14 15 rfl rfl rfl rfl, stepAt_at H 2 8 9 10 11 rfl rfl rfl rfl,
    stepAt_at H 1 4 5 6 7 rfl rfl rfl rfl, stepAt_at H 0 0 1 2 3 rfl rfl rfl rfl, sum_blocks, Fin.sum_univ_eight]
  have hz : k0_pay18 (F := Ideal) (ix2 (row b i) n) = 0 := Ideal.ofBits_zero_f32
  rw [hz, zero_add]

end

end Cert.KernelIdeal.Pf

end
-- ==== Proof.RefValue.lean ====
/-
The reference read at an index: each output element is the contraction, over the 2048 columns of the concatenated heads, of the
masked softmax attention with the output weights.
-/
module

public import proofs.«01_k».proof.Proof.Gen.ReferenceIdeal
public import proofs.«01_k».proof.Proof.Gen.ReferenceIdeal.Run
public import proofs.«01_k».proof.Proof.Softmax

@[expose] public section

set_option maxRecDepth 16384

noncomputable section

namespace Cert.ReferenceIdeal.Pf

open Cert.ReferenceIdeal Cert.ReferenceIdeal.Gen Cert.Attn

open Idealize.ShloMosaic
open Idealize.ShloMosaic.TcCoe
open Cert.ReferenceIdeal.Facts
open scoped BigOperators

/-- The block of 64 rows a row lies in, as the program's floor division computes it. -/
def fdiv : IVec S128 32 := (select (andi (cmpi .ne (signi (iotaInDim S128 32 0)) (broadcastInDim S128 ![] bcast_S_S128 (signi (id (constantI S_ 32 64#32))))) (cmpi .ne (Host.remsi (iotaInDim S128 32 0) (broadcastInDim S128 ![] bcast_S_S128 (id (constantI S_ 32 64#32)))) (broadcastInDim S128 ![] bcast_S_S128 (constantI S_ 32 0#32)))) (subi (Host.divsi (iotaInDim S128 32 0) (broadcastInDim S128 ![] bcast_S_S128 (id (constantI S_ 32 64#32)))) (broadcastInDim S128 ![] bcast_S_S128 (constantI S_ 32 1#32))) (Host.divsi (iotaInDim S128 32 0) (broadcastInDim S128 ![] bcast_S_S128 (id (constantI S_ 32 64#32)))))
/-- That block modulo 4, along the columns and along the rows. -/
def mdC : IVec S1x128 32 := (select (andi (cmpi .ne (cmpi .slt (Host.remsi (broadcastInDim S1x128 ![1] bcast_S128_S1x128_1 fdiv) (broadcastInDim S1x128 ![] bcast_S_S1x128 (select (cmpi .eq (id (constantI S_ 32 4#32)) (constantI S_ 32 0#32)) (constantI S_ 32 1#32) (id (constantI S_ 32 4#32))))) (broadcastInDim S1x128 ![] bcast_S_S1x128 (constantI S_ 32 0#32))) (broadcastInDim S1x128 ![] bcast_S_S1x128 (cmpi .slt (select (cmpi .eq (id (constantI S_ 32 4#32)) (constantI S_ 32 0#32)) (constantI S_ 32 1#32) (id (constantI S_ 32 4#32))) (constantI S_ 32 0#32)))) (cmpi .ne (Host.remsi (broadcastInDim S1x128 ![1] bcast_S128_S1x128_1 fdiv) (broadcastInDim S1x128 ![] bcast_S_S1x128 (select (cmpi .eq (id (constantI S_ 32 4#32)) (constantI S_ 32 0#32)) (constantI S_ 32 1#32) (id (constantI S_ 32 4#32))))) (broadcastInDim S1x128 ![] bcast_S_S1x128 (constantI S_ 32 0#32)))) (addi (Host.remsi (broadcastInDim S1x128 ![1] bcast_S128_S1x128_1 fdiv) (broadcastInDim S1x128 ![] bcast_S_S1x128 (select (cmpi .eq (id (constantI S_ 32 4#32)) (constantI S_ 32 0#32)) (constantI S_ 32 1#32) (id (constantI S_ 32 4#32))))) (broadcastInDim S1x128 ![] bcast_S_S1x128 (select (cmpi .eq (id (constantI S_ 32 4#32)) (constantI S_ 32 0#32)) (constantI S_ 32 1#32) (id (constantI S_ 32 4#32))))) (Host.remsi (broadcastInDim S1x128 ![1] bcast_S128_S1x128_1 fdiv) (broadcastInDim S1x128 ![] bcast_S_S1x128 (select (cmpi .eq (id (constantI S_ 32 4#32)) (constantI S_ 32 0#32)) (constantI S_ 32 1#32) (id (constantI S_ 32 4#32))))))
def mdR : IVec S128x1 32 := (select (andi (cmpi .ne (cmpi .slt (Host.remsi (broadcastInDim S128x1 ![0] bcast_S128_S128x1_0 fdiv) (broadcastInDim S128x1 ![] bcast_S_S128x1 (select (cmpi .eq (id (constantI S_ 32 4#32)) (constantI S_ 32 0#32)) (constantI S_ 32 1#32) (id (constantI S_ 32 4#32))))) (broadcastInDim S128x1 ![] bcast_S_S128x1 (constantI S_ 32 0#32))) (broadcastInDim S128x1 ![] bcast_S_S128x1 (cmpi .slt (select (cmpi .eq (id (constantI S_ 32 4#32)) (constantI S_ 32 0#32)) (constantI S_ 32 1#32) (id (constantI S_ 32 4#32))) (constantI S_ 32 0#32)))) (cmpi .ne (Host.remsi (broadcastInDim S128x1 ![0] bcast_S128_S128x1_0 fdiv) (broadcastInDim S128x1 ![] bcast_S_S128x1 (select (cmpi .eq (id (constantI S_ 32 4#32)) (constantI S_ 32 0#32)) (constantI S_ 32 1#32) (id (constantI S_ 32 4#32))))) (broadcastInDim S128x1 ![] bcast_S_S128x1 (constantI S_ 32 0#32)))) (addi (Host.remsi (broadcastInDim S128x1 ![0] bcast_S128_S128x1_0 fdiv) (broadcastInDim S128x1 ![] bcast_S_S128x1 (select (cmpi .eq (id (constantI S_ 32 4#32)) (constantI S_ 32 0#32)) (constantI S_ 32 1#32) (id (constantI S_ 32 4#32))))) (broadcastInDim S128x1 ![] bcast_S_S128x1 (select (cmpi .eq (id (constantI S_ 32 4#32)) (constantI S_ 32 0#32)) (constantI S_ 32 1#32) (id (constantI S_ 32 4#32))))) (Host.remsi (broadcastInDim S128x1 ![0] bcast_S128_S128x1_0 fdiv) (broadcastInDim S128x1 ![] bcast_S_S128x1 (select (cmpi .eq (id (constantI S_ 32 4#32)) (constantI S_ 32 0#32)) (constantI S_ 32 1#32) (id (constantI S_ 32 4#32))))))
def rmask : IVec S128x128 1 := (ori (cmpi .eq (broadcastInDim S128x128 ![0, 1] bcast_S128x1_S128x128_0_1 (broadcastInDim S128x1 ![0] bcast_S128_S128x1_0 fdiv)) (broadcastInDim S128x128 ![0, 1] bcast_S1x128_S128x128_0_1 (broadcastInDim S1x128 ![1] bcast_S128_S1x128_1 fdiv))) (cmpi .eq (broadcastInDim S128x128 ![0, 1] bcast_S1x128_S128x128_0_1 mdC) (broadcastInDim S128x128 ![0, 1] bcast_S128x1_S128x128_0_1 mdR)))
def rkeep : IVec S128 1 := (Host.reduce IntOp.ori rmask (constantI S_ 1 0#1) reducesTo_S128x128_S128_d1 h_S_)

section

variable (A0 : FVec Ideal S16x128x512 .f32) (A1 : FVec Ideal S512x2048 .f32) (A2 A3 : FVec Ideal S16x128x32x64 .f32) (A4 : FVec Ideal S2048x512 .f32)

def rq : FVec Ideal S16x128x32x64 .f32 := (shapeCast S16x128x32x64 (Host.dotGeneral dot_S16x128x512_S512x2048_S16x128x2048_2_0_01_1_n_n none A0 A1) shapeCasts_S16x128x2048_S16x128x32x64)
def rsc : FVec Ideal S16x32x128x128 .f32 := (select (broadcastInDim S16x32x128x128 ![0, 1, 2, 3] bcast_S1x1x128x128_S16x32x128x128_0_1_2_3 (broadcastInDim S1x1x128x128 ![2, 3] bcast_S128x128_S1x1x128x128_2_3 rmask)) (mulf (Host.dotGeneral dot_S16x128x32x64_S16x128x32x64_S16x32x128x128_3_3_1_1_02_02 none (rq A0 A1) A2) (broadcastInDim S16x32x128x128 ![] bcast_S_S16x32x128x128 (constant S_ .f32 0x3E000000#32))) (broadcastInDim S16x32x128x128 ![] bcast_S_S16x32x128x128 (id (constant S_ .f32 0xFF800000#32))))
def rmx : FVec Ideal S16x32x128 .f32 := (Host.reduce FloatOps.maximumf (rsc A0 A1 A2) (constant S_ .f32 0xFF800000#32) reducesTo_S16x32x128x128_S16x32x128_d3 h_S_)
def rex : FVec Ideal S16x32x128x128 .f32 := (Host.exp (subf (rsc A0 A1 A2) (broadcastInDim S16x32x128x128 ![0, 1, 2, 3] bcast_S16x32x128x1_S16x32x128x128_0_1_2_3 (broadcastInDim S16x32x128x1 ![0, 1, 2] bcast_S16x32x128_S16x32x128x1_0_1_2 (rmx A0 A1 A2)))))
def rsum : FVec Ideal S16x32x128 .f32 := (Host.reduceAdd (rex A0 A1 A2) (constant S_ .f32 0x00000000#32) reducesTo_S16x32x128x128_S16x32x128_d3 h_S_)
def rw : FVec Ideal S16x32x128x128 .f32 := (select (broadcastInDim S16x32x128x128 ![0, 1, 2, 3] bcast_S1x1x128x1_S16x32x128x128_0_1_2_3 (broadcastInDim S1x1x128x1 ![2] bcast_S128_S1x1x128x1_2 rkeep)) (Host.divf (rex A0 A1 A2) (broadcastInDim S16x32x128x128 ![0, 1, 2, 3] bcast_S16x32x128x1_S16x32x128x128_0_1_2_3 (select (broadcastInDim S16x32x128x1 ![0, 1, 2, 3] bcast_S1x1x128x1_S16x32x128x1_0_1_2_3 (broadcastInDim S1x1x128x1 ![2] bcast_S128_S1x1x128x1_2 rkeep)) (broadcastInDim S16x32x128x1 ![0, 1, 2] bcast_S16x32x128_S16x32x128x1_0_1_2 (rsum A0 A1 A2)) (broadcastInDim S16x32x128x1 ![] bcast_S_S16x32x128x1 (id (constant S_ .f32 0x3F800000#32)))))) (broadcastInDim S16x32x128x128 ![] bcast_S_S16x32x128x128 (id (constant S_ .f32 0x00000000#32))))
def rctx : FVec Ideal S16x128x2048 .f32 := (shapeCast S16x128x2048 (transpose S16x128x32x64 [0, 3, 1, 2] (Host.dotGeneral dot_S16x128x32x64_S16x32x128x128_S16x32x64x128_1_3_3_2_02_01 none A3 (rw A0 A1 A2)) transposes_S16x32x64x128_S16x128x32x64_0_3_1_2) shapeCasts_S16x128x32x64_S16x128x2048)
def rout : FVec Ideal S16x128x512 .f32 := Host.dotGeneral dot_S16x128x2048_S2048x512_S16x128x512_2_0_01_1_n_n none (rctx A0 A1 A2 A3) A4

end

set_option maxHeartbeats 4000000 in
theorem res_eq (m : (ℓ : Loc nD τ sig) → Buf (Elt Ideal) ℓ) (c : Dev nD) :
    Value.res_main_v39 (F := Ideal) m c = rout (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem fdiv_at : ∀ i : Fin 128, fdiv (ix1 i) = BitVec.ofNat 32 (i.val / 64) := by decide +kernel
theorem mdC_at : ∀ i : Fin 128, mdC (ix2 0 i) = BitVec.ofNat 32 (i.val / 64) := by decide +kernel
theorem mdR_at : ∀ i : Fin 128, mdR (ix2 i 0) = BitVec.ofNat 32 (i.val / 64) := by decide +kernel

theorem cmp_div (i j : Fin 128) : IntOp.cmpi .eq (BitVec.ofNat 32 (i.val / 64)) (BitVec.ofNat 32 (j.val / 64)) = BitVec.ofBool (decide (i.val / 64 = j.val / 64)) := by
  have hi : i.val / 64 < 2 := by omega
  have hj : j.val / 64 < 2 := by omega
  generalize i.val / 64 = a at *
  generalize j.val / 64 = b at *
  interval_cases a <;> interval_cases b <;> decide

theorem rmask_at (i j : Fin 128) : rmask (ix2 i j) = BitVec.ofBool (decide (i.val / 64 = j.val / 64)) := by
  unfold rmask
  pointwise
  rw [fdiv_at, fdiv_at, mdC_at, mdR_at, cmp_div, cmp_div]
  by_cases h : i.val / 64 = j.val / 64
  · simp [h, IntOp.ori]
  · simp [h, Ne.symm h, IntOp.ori]

theorem rkeep_at (i : Fin 128) : rkeep (ix1 i) = 1#1 := by
  unfold rkeep
  pointwise
  rw [← Finset.insert_erase (Finset.mem_univ i), Finset.fold_insert (Finset.notMem_erase _ _), rmask_at]
  simp only [decide_true, BitVec.ofBool_true]
  show 1#1 ||| _ = 1#1
  exact (by decide : ∀ z : BitVec 1, 1#1 ||| z = 1#1) _

section

variable (A0 : FVec Ideal S16x128x512 .f32) (A1 : FVec Ideal S512x2048 .f32) (A2 A3 : FVec Ideal S16x128x32x64 .f32) (A4 : FVec Ideal S2048x512 .f32)

theorem rq_at (B : Fin 16) (i : Fin 128) (h : Fin 32) (e : Fin 64) : rq A0 A1 (ix4 B i h e) = qv A0 A1 B i (hcol h e) := by
  unfold rq qv hcol
  pointwise

theorem rsc_at (B : Fin 16) (h : Fin 32) (i j : Fin 128) : rsc A0 A1 A2 (ix4 B h i j) = sc A0 A1 A2 B h i j := by
  unfold rsc sc
  pointwise
  rw [rmask_at]
  simp only [rq_at]
  by_cases hh : i.val / 64 = j.val / 64
  · rw [if_pos hh]; simp only [hh, decide_true]; rfl
  · rw [if_neg hh]; simp only [hh, decide_false]; exact ofBits_ninf

theorem rmx_at (B : Fin 16) (h : Fin 32) (i : Fin 128) : rmx A0 A1 A2 (ix3 B h i) = top (fun j => sc A0 A1 A2 B h i j) := by
  unfold rmx top
  pointwise
  rw [ofBits_ninf]
  simp only [rsc_at]

theorem rex_at (B : Fin 16) (h : Fin 32) (i j : Fin 128) : rex A0 A1 A2 (ix4 B h i j) = Ideal.exp (sc A0 A1 A2 B h i j - top (fun j => sc A0 A1 A2 B h i j)) := by
  unfold rex
  pointwise
  rw [rsc_at, rmx_at]

theorem rsum_at (B : Fin 16) (h : Fin 32) (i : Fin 128) : rsum A0 A1 A2 (ix3 B h i) = ∑ k, Ideal.exp (sc A0 A1 A2 B h i k - top (fun j => sc A0 A1 A2 B h i j)) := by
  unfold rsum
  pointwise
  simp only [rex_at]

theorem rw_at (B : Fin 16) (h : Fin 32) (i j : Fin 128) : rw A0 A1 A2 (ix4 B h i j)
    = Ideal.div (Ideal.exp (sc A0 A1 A2 B h i j - top (fun j => sc A0 A1 A2 B h i j))) (∑ k, Ideal.exp (sc A0 A1 A2 B h i k - top (fun j => sc A0 A1 A2 B h i j))) := by
  unfold rw
  pointwise
  rw [rkeep_at, rex_at, rsum_at]
  rfl

theorem rctx_at (B : Fin 16) (i : Fin 128) (t : Fin 2048) : rctx A0 A1 A2 A3 (ix3 B i t) = ctx A0 A1 A2 A3 B ⟨t.val / 64, by omega⟩ i ⟨t.val % 64, by omega⟩ := by
  unfold rctx ctx smx
  pointwise
  refine Finset.sum_congr rfl fun x _ => ?_
  rw [rw_at, mul_comm]

theorem rout_at (B : Fin 16) (i : Fin 128) (n : Fin 512) : rout A0 A1 A2 A3 A4 (ix3 B i n) = outS A0 A1 A2 A3 A4 B i n := by
  unfold rout outS
  pointwise
  refine Finset.sum_congr rfl fun x _ => ?_
  rw [rctx_at]

end

end Cert.ReferenceIdeal.Pf

end
-- ==== Proof.Value.lean ====
/-
The kernel's memory read as the arrays of the claim: what each device stores is the reference's block.
-/
module

public import proofs.«01_k».proof.Defs
public import proofs.«01_k».proof.Proof.Launch
public import proofs.«01_k».proof.Proof.KValue
public import proofs.«01_k».proof.Proof.RefValue
public import Idealize.ShloMosaic.Lib.Pipeline.ValueKit
public import Idealize.ShloMosaic.Lib.ReduceAll

@[expose] public section

set_option maxRecDepth 16384

noncomputable section

namespace Cert.KernelIdeal.Pf

open Cert.KernelIdeal Cert.KernelIdeal.Gen Cert.Attn

open Idealize.ShloMosaic
open scoped BigOperators

variable (m : (ℓ : Loc nD τ sig) → Buf (Elt Ideal) ℓ) (ρ : Dev nD → PrngReg)

theorem final_out (c : Dev nD) : finalA m ρ c 3 = outAt m ρ c := by
  refine (dats m ρ 0 c).arrAt_eq_of_after_last 3 t₀ (by decide +kernel) _ fun j => ?_
  blk_simp
  rfl

theorem xstg_eq (c : Dev nD) (i : S2x128x512.Idx) : xstg m ρ c i = m ((c.tc : Thread nD τ).loc main_arg0) i := by
  refine congrArg (m ((c.tc : Thread nD τ).loc main_arg0)) ?_
  funext a
  match a with
  | ⟨0, _⟩ => exact Fin.ext ((Nat.zero_add _).trans (Nat.one_mul _))
  | ⟨1, _⟩ => exact Fin.ext ((Nat.zero_add _).trans (Nat.one_mul _))
  | ⟨2, _⟩ => exact Fin.ext ((Nat.zero_add _).trans (Nat.one_mul _))

theorem wqstg_eq (c : Dev nD) (i : S512x256.Idx) : wqstg m ρ c i = m ((c.tc : Thread nD τ).loc main_arg1) i := by
  refine congrArg (m ((c.tc : Thread nD τ).loc main_arg1)) ?_
  funext a
  match a with
  | ⟨0, _⟩ => exact Fin.ext ((Nat.zero_add _).trans (Nat.one_mul _))
  | ⟨1, _⟩ => exact Fin.ext ((Nat.zero_add _).trans (Nat.one_mul _))

theorem wostg_eq (c : Dev nD) (i : S256x512.Idx) : wostg m ρ c i = m ((c.tc : Thread nD τ).loc main_arg4) i := by
  refine congrArg (m ((c.tc : Thread nD τ).loc main_arg4)) ?_
  funext a
  match a with
  | ⟨0, _⟩ => exact Fin.ext ((Nat.zero_add _).trans (Nat.one_mul _))
  | ⟨1, _⟩ => exact Fin.ext ((Nat.zero_add _).trans (Nat.one_mul _))

theorem GK_at (c : Dev nD) (j : Fin 32) (b : Fin 2) (i : Fin 128) (e : Fin 64) :
    LK (GK m ρ c) j (ix4 b i 0 e) = m ((c.tc : Thread nD τ).loc main_arg2) (ix4 (bat c b) i j e) := by
  refine congrArg (m ((c.tc : Thread nD τ).loc main_arg2)) ?_
  have h := k0_off1_eq c
  funext a
  match a with
  | ⟨0, _⟩ =>
    refine Fin.ext ?_
    show k0_off1 c 0 + 1 * (0 + 1 * b.val) = c.val * 2 + b.val
    rw [h]; show 2 * c.val + _ = _; omega
  | ⟨1, _⟩ =>
    refine Fin.ext ?_
    show k0_off1 c 1 + 1 * (0 + 1 * i.val) = i.val
    rw [h]; show 0 + _ = _; omega
  | ⟨2, _⟩ =>
    refine Fin.ext ?_
    show k0_off1 c 2 + 1 * (j.val + 1 * 0) = j.val
    rw [h]; show 0 + _ = _; omega
  | ⟨3, _⟩ =>
    refine Fin.ext ?_
    show k0_off1 c 3 + 1 * (0 + 1 * e.val) = e.val
    rw [h]; show 0 + _ = _; omega

theorem GV_at (c : Dev nD) (j : Fin 32) (b : Fin 2) (i : Fin 128) (e : Fin 64) :
    LV (GV m ρ c) j (ix4 b i 0 e) = m ((c.tc : Thread nD τ).loc main_arg3) (ix4 (bat c b) i j e) := by
  refine congrArg (m ((c.tc : Thread nD τ).loc main_arg3)) ?_
  have h := k0_off1_eq c
  funext a
  match a with
  | ⟨0, _⟩ =>
    refine Fin.ext ?_
    show k0_off1 c 0 + 1 * (0 + 1 * b.val) = c.val * 2 + b.val
    rw [h]; show 2 * c.val + _ = _; omega
  | ⟨1, _⟩ =>
    refine Fin.ext ?_
    show k0_off1 c 1 + 1 * (0 + 1 * i.val) = i.val
    rw [h]; show 0 + _ = _; omega
  | ⟨2, _⟩ =>
    refine Fin.ext ?_
    show k0_off1 c 2 + 1 * (j.val + 1 * 0) = j.val
    rw [h]; show 0 + _ = _; omega
  | ⟨3, _⟩ =>
    refine Fin.ext ?_
    show k0_off1 c 3 + 1 * (0 + 1 * e.val) = e.val
    rw [h]; show 0 + _ = _; omega

theorem GQ_at (b : Fin 8) (d : Fin 512) (t : Fin 256) :
    LQ (GQ m ρ) b (ix3 0 d t) = m ((Dev.tc (b : Dev nD) : Thread nD τ).loc main_arg1) (ix2 d t) := by
  have hx : ((rq8 b).toLoadRect.idx (ix3 0 d t) : S8x512x256.Idx) = ix3 b d t := by
    funext a
    match a with
    | ⟨0, _⟩ => exact Fin.ext (by show b.val + 1 * 0 = b.val; omega)
    | ⟨1, _⟩ => exact Fin.ext ((Nat.zero_add _).trans (Nat.one_mul _))
    | ⟨2, _⟩ => exact Fin.ext ((Nat.zero_add _).trans (Nat.one_mul _))
  have h1 : LQ (GQ m ρ) b (ix3 0 d t) = GQ m ρ (ix3 b d t) := congrArg (GQ m ρ) hx
  rw [h1]
  have h2 : inq (ix3 b d t) = ix3 (0 : Fin 1) d t := by
    funext a
    match a with
    | ⟨0, _⟩ => rfl
    | ⟨1, _⟩ => rfl
    | ⟨2, _⟩ => rfl
  show k0_pay2 (wqstg m ρ b) (inq (ix3 b d t)) = _
  rw [h2, ← wqstg_eq m ρ b]
  unfold k0_pay2
  pointwise

theorem GO_at (b : Fin 8) (t : Fin 256) (n : Fin 512) :
    LO (GO m ρ) b (ix3 0 t n) = m ((Dev.tc (b : Dev nD) : Thread nD τ).loc main_arg4) (ix2 t n) := by
  have hx : ((ro8 b).toLoadRect.idx (ix3 0 t n) : S8x256x512.Idx) = ix3 b t n := by
    funext a
    match a with
    | ⟨0, _⟩ => exact Fin.ext (by show b.val + 1 * 0 = b.val; omega)
    | ⟨1, _⟩ => exact Fin.ext ((Nat.zero_add _).trans (Nat.one_mul _))
    | ⟨2, _⟩ => exact Fin.ext ((Nat.zero_add _).trans (Nat.one_mul _))
  have h1 : LO (GO m ρ) b (ix3 0 t n) = GO m ρ (ix3 b t n) := congrArg (GO m ρ) hx
  rw [h1]
  have h2 : ino (ix3 b t n) = ix3 (0 : Fin 1) t n := by
    funext a
    match a with
    | ⟨0, _⟩ => rfl
    | ⟨1, _⟩ => rfl
    | ⟨2, _⟩ => rfl
  show k0_pay3 (wostg m ρ b) (ino (ix3 b t n)) = _
  rw [h2, ← wostg_eq m ρ b]
  unfold k0_pay3
  pointwise

theorem x_at (c : Dev nD) (b : Fin 2) (i : Fin 128) (d : Fin 512) :
    k0_pay4 (xstg m ρ c) (ix2 (row b i) d) = m ((c.tc : Thread nD τ).loc main_arg0) (ix3 b i d) := by
  rw [← xstg_eq m ρ c]
  unfold k0_pay4
  pointwise
  exact congrArg (xstg m ρ c) (congrArg₂ (fun p q => ix3 p q d)
    (Fin.ext (by show (b.val * 128 + i.val) / 128 = b.val; omega)) (Fin.ext (by show (b.val * 128 + i.val) % 128 = i.val; omega)))

/-! ## The blocks at an index -/

theorem block_0 (c : Fin 8) (v : (⟨3, ![16, 128, 512]⟩ : Shape).Idx → EReal) (h : Layout.Tiles ⟨3, ![2, 128, 512]⟩ ⟨3, ![16, 128, 512]⟩ 0 8)
    (b : Fin 2) (i : Fin 128) (d : Fin 512) :
    Layout.block ⟨3, ![2, 128, 512]⟩ ⟨3, ![16, 128, 512]⟩ 0 8 c v h (ix3 b i d) = v (ix3 (bat c b) i d) := by
  refine congrArg v ?_
  funext a
  match a with
  | ⟨0, _⟩ => exact Fin.ext rfl
  | ⟨1, _⟩ => exact Fin.ext rfl
  | ⟨2, _⟩ => exact Fin.ext rfl

theorem block_1 (c : Fin 8) (v : (⟨2, ![512, 2048]⟩ : Shape).Idx → EReal) (h : Layout.Tiles ⟨2, ![512, 256]⟩ ⟨2, ![512, 2048]⟩ 1 8)
    (d : Fin 512) (t : Fin 256) :
    Layout.block ⟨2, ![512, 256]⟩ ⟨2, ![512, 2048]⟩ 1 8 c v h (ix2 d t) = v (ix2 d (bcol c t)) := by
  refine congrArg v ?_
  funext a
  match a with
  | ⟨0, _⟩ => exact Fin.ext rfl
  | ⟨1, _⟩ => exact Fin.ext rfl

theorem block_4 (c : Fin 8) (v : (⟨2, ![2048, 512]⟩ : Shape).Idx → EReal) (h : Layout.Tiles ⟨2, ![256, 512]⟩ ⟨2, ![2048, 512]⟩ 0 8)
    (t : Fin 256) (n : Fin 512) :
    Layout.block ⟨2, ![256, 512]⟩ ⟨2, ![2048, 512]⟩ 0 8 c v h (ix2 t n) = v (ix2 (bcol c t) n) := by
  refine congrArg v ?_
  funext a
  match a with
  | ⟨0, _⟩ => exact Fin.ext rfl
  | ⟨1, _⟩ => exact Fin.ext rfl

/-! ## Real inputs -/

/-- A number that is neither infinity. -/
def Real' (a : EReal) : Prop := ∃ r : ℝ, a = (r : EReal)

theorem Real'.of_lt {a : EReal} (h0 : ⊥ < a) (h1 : a < ⊤) : Real' a := ⟨a.toReal, (EReal.coe_toReal h1.ne h0.ne').symm⟩
theorem Real'.mul {a b : EReal} (ha : Real' a) (hb : Real' b) : Real' (a * b) := by
  obtain ⟨r, rfl⟩ := ha; obtain ⟨s, rfl⟩ := hb; exact ⟨r * s, (EReal.coe_mul r s).symm⟩
theorem Real'.sum {n : ℕ} {f : Fin n → EReal} (h : ∀ i, Real' (f i)) : Real' (∑ i, f i) :=
  Finset.sum_induction f Real' (fun a b ha hb => by obtain ⟨r, rfl⟩ := ha; obtain ⟨s, rfl⟩ := hb; exact ⟨r + s, (EReal.coe_add r s).symm⟩)
    ⟨0, rfl⟩ fun i _ => h i
theorem Real'.ne_top {a : EReal} (h : Real' a) : a ≠ ⊤ := by obtain ⟨r, rfl⟩ := h; exact EReal.coe_ne_top r
theorem Real'.ne_bot {a : EReal} (h : Real' a) : a ≠ ⊥ := by obtain ⟨r, rfl⟩ := h; exact EReal.coe_ne_bot r

theorem real_c8 : Real' c8 := by
  refine ⟨1 / 8, ?_⟩
  unfold c8
  simp [Ideal.ofBits, Ideal.ieee]
  norm_num
  rw [← EReal.coe_mul]
  norm_num

theorem ofBits_pinf : Ideal.ofBits .f32 0x7F800000#32 = ⊤ := by
  simp [Ideal.ofBits, Ideal.ieee]

theorem scalar_idx : Subsingleton Cert.Pre_finite_KernelIdeal.S_.Idx := ⟨fun a b => funext fun i => i.elim0⟩

theorem real_of_cmp {a : EReal} (h : IntOp.andi (Ideal.cmp .ogt a (Ideal.ofBits .f32 0xFF800000#32)) (Ideal.cmp .olt a (Ideal.ofBits .f32 0x7F800000#32)) = 1#1) : Real' a := by
  obtain ⟨h0, h1⟩ := IntOp.andi_eq_one.1 h
  rw [ofBits_ninf] at h0
  rw [ofBits_pinf] at h1
  exact Real'.of_lt ((Ideal.cmp_ogt_eq_one _ _).1 h0) ((Ideal.cmp_olt_eq_one _ _).1 h1)

/-- What the precondition says of one device's buffers. -/
theorem pre_real [Cert.Pre_finite_KernelIdeal.Facts] {a0 : FVec Ideal S2x128x512 .f32} {a1 : FVec Ideal S512x256 .f32} {a2 a3 : FVec Ideal S16x128x32x64 .f32}
    {a4 : FVec Ideal S256x512 .f32} (h : Cert.Pre_finite_KernelIdeal.fn (F := Ideal) a0 a1 a2 a3 a4 = fun _ => 1#1) :
    (∀ i, Real' (a0 i)) ∧ (∀ i, Real' (a1 i)) ∧ ∀ i, Real' (a2 i) := by
  haveI := scalar_idx
  have hj := congrFun h (fun i => i.elim0)
  unfold Cert.Pre_finite_KernelIdeal.fn Cert.Pre_finite_KernelIdeal.fn_part1 at hj
  obtain ⟨h01, h2⟩ := IntOp.andi_eq_one.1 hj
  obtain ⟨h0, h1⟩ := IntOp.andi_eq_one.1 h01
  exact ⟨fun i => real_of_cmp (Host.reduce_andi_all _ _ _ _ _ h0 i), fun i => real_of_cmp (Host.reduce_andi_all _ _ _ _ _ h1 i),
    fun i => real_of_cmp (Host.reduce_andi_all _ _ _ _ _ h2 i)⟩

section

variable (A0 : (⟨3, ![16, 128, 512]⟩ : Shape).Idx → EReal) (A1 : (⟨2, ![512, 2048]⟩ : Shape).Idx → EReal)
variable (A2 A3 : (⟨4, ![16, 128, 32, 64]⟩ : Shape).Idx → EReal) (A4 : (⟨2, ![2048, 512]⟩ : Shape).Idx → EReal)

/-- Each device's memory holds its blocks of the arrays, which are real where the scores read them. -/
structure Args : Prop where
  e0 : ∀ c : Dev nD, m ((c.tc : Thread nD τ).loc main_arg0) = Layout.block ⟨3, ![2, 128, 512]⟩ ⟨3, ![16, 128, 512]⟩ 0 8 c A0
  e1 : ∀ c : Dev nD, m ((c.tc : Thread nD τ).loc main_arg1) = Layout.block ⟨2, ![512, 256]⟩ ⟨2, ![512, 2048]⟩ 1 8 c A1
  e2 : ∀ c : Dev nD, m ((c.tc : Thread nD τ).loc main_arg2) = A2
  e3 : ∀ c : Dev nD, m ((c.tc : Thread nD τ).loc main_arg3) = A3
  e4 : ∀ c : Dev nD, m ((c.tc : Thread nD τ).loc main_arg4) = Layout.block ⟨2, ![256, 512]⟩ ⟨2, ![2048, 512]⟩ 0 8 c A4
  r0 : ∀ (c : Dev nD) (i : S2x128x512.Idx), Real' (m ((c.tc : Thread nD τ).loc main_arg0) i)
  r1 : ∀ (c : Dev nD) (i : S512x256.Idx), Real' (m ((c.tc : Thread nD τ).loc main_arg1) i)
  r2 : ∀ (c : Dev nD) (i : S16x128x32x64.Idx), Real' (m ((c.tc : Thread nD τ).loc main_arg2) i)

variable {m A0 A1 A2 A3 A4}

theorem Args.real0 (H : Args m A0 A1 A2 A3 A4) (B : Fin 16) (i : Fin 128) (d : Fin 512) : Real' (A0 (ix3 B i d)) := by
  have h := H.r0 ⟨B.val / 2, by show B.val / 2 < 8; omega⟩ (ix3 ⟨B.val % 2, by omega⟩ i d)
  rw [H.e0, block_0] at h
  have e : bat ⟨B.val / 2, by omega⟩ ⟨B.val % 2, by omega⟩ = B := Fin.ext (by show B.val / 2 * 2 + B.val % 2 = B.val; omega)
  rw [← e]
  exact h

theorem Args.real1 (H : Args m A0 A1 A2 A3 A4) (d : Fin 512) (t : Fin 2048) : Real' (A1 (ix2 d t)) := by
  have h := H.r1 ⟨t.val / 256, by show t.val / 256 < 8; omega⟩ (ix2 d ⟨t.val % 256, by omega⟩)
  rw [H.e1, block_1] at h
  have e : bcol ⟨t.val / 256, by omega⟩ ⟨t.val % 256, by omega⟩ = t := Fin.ext (by show t.val / 256 * 256 + t.val % 256 = t.val; omega)
  rw [← e]
  exact h

theorem Args.real2 (H : Args m A0 A1 A2 A3 A4) (i : S16x128x32x64.Idx) : Real' (A2 i) := by
  have h := H.r2 0 i
  rw [H.e2] at h
  exact h

theorem Args.score (H : Args m A0 A1 A2 A3 A4) (B : Fin 16) (h : Fin 32) (i j : Fin 128) :
    Real' ((∑ e : Fin 64, qv A0 A1 B i (hcol h e) * A2 (ix4 B j h e)) * c8) :=
  (Real'.sum fun e => (Real'.sum fun d => (H.real0 B i d).mul (H.real1 d _)).mul (H.real2 _)).mul real_c8

theorem Args.holds (H : Args m A0 A1 A2 A3 A4) (c : Dev nD) :
    Holds A0 A1 A2 A3 A4 c (k0_pay4 (xstg m ρ c)) (GQ m ρ) (GO m ρ) (GK m ρ c) (GV m ρ c) where
  hx b i d := by rw [x_at, H.e0, block_0]
  hq b d t := by rw [GQ_at, H.e1, block_1]
  ho b t n := by rw [GO_at, H.e4, block_4]
  hk j b i e := by rw [GK_at, H.e2]
  hv j b i e := by rw [GV_at, H.e3]
  hT B h i j := by
    unfold sc
    split_ifs
    · exact (H.score B h i j).ne_top
    · exact bot_ne_top
  hB B h i := by
    unfold sc
    rw [if_pos rfl]
    exact (H.score B h i i).ne_bot

theorem ix3_eta {a b c : ℕ} (j : (⟨3, ![a, b, c]⟩ : Shape).Idx) : j = ix3 (j 0) (j 1) (j 2) := by
  funext k
  match k with
  | ⟨0, _⟩ => rfl
  | ⟨1, _⟩ => rfl
  | ⟨2, _⟩ => rfl

/-- What device `c` stores is its block of the reference's result. -/
theorem Args.out (H : Args m A0 A1 A2 A3 A4) (c : Dev nD) :
    finalA m ρ c 3 = Layout.block ⟨3, ![2, 128, 512]⟩ ⟨3, ![16, 128, 512]⟩ 0 8 c (Cert.ReferenceIdeal.Pf.rout A0 A1 A2 A3 A4) := by
  rw [final_out]
  funext j
  have hj : j = ix3 (j 0) (j 1) (j 2) := ix3_eta j
  rw [hj]
  refine (outOf_outS (H := H.holds ρ c) (j 0) (j 1) (j 2)).trans ?_
  exact (Cert.ReferenceIdeal.Pf.rout_at A0 A1 A2 A3 A4 _ _ _).symm.trans (block_0 c _ _ _ _ _).symm

end

end Cert.KernelIdeal.Pf

end
-- ==== Proof.lean ====
module

public import proofs.«01_k».proof.Defs
public import proofs.«01_k».proof.Proof.Launch
public import proofs.«01_k».proof.Proof.K.Launch
public import proofs.«01_k».proof.Proof.Value
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem frame_Kernel : Cert.quiescent_Kernel := fun m ρ _ =>
  (θ_run _ _ _).mono (fun r h => ⟨fun c => ⟨((h.1 c).1 0).trans (Cert.Kernel.Pf.finalA_in m ρ c 0 rfl),
    ((h.1 c).1 1).trans (Cert.Kernel.Pf.finalA_in m ρ c 1 rfl), (h.1 c).2.1, (h.1 c).2.2,
    ((h.1 c).1 2).trans (Cert.Kernel.Pf.finalA_in m ρ c 2 rfl)⟩, h.2⟩) (Cert.Kernel.Pf.run_main (F := Bits) m ρ)

theorem frame_KernelIdeal : Cert.quiescent_KernelIdeal := fun m ρ _ =>
  (θ_run _ _ _).mono (fun r h => ⟨fun c => ⟨((h.1 c).1 0).trans (Cert.KernelIdeal.Pf.finalA_in m ρ c 0 rfl),
    ((h.1 c).1 1).trans (Cert.KernelIdeal.Pf.finalA_in m ρ c 1 rfl), (h.1 c).2.1, (h.1 c).2.2,
    ((h.1 c).1 2).trans (Cert.KernelIdeal.Pf.finalA_in m ρ c 2 rfl)⟩, h.2⟩) (Cert.KernelIdeal.Pf.run_main (F := Ideal) m ρ)

theorem frame_ReferenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xCE6E6B28#32 ⊥ rfl

theorem factsK : Cert.Pre_finite_KernelIdeal.Facts := by constructor <;> decide
theorem factsR : Cert.Pre_finite_ReferenceIdeal.Facts := by constructor <;> decide

theorem algebraic : @Cert.algebraic_KernelIdeal_ReferenceIdeal_pre_finite_KernelIdeal Cert.KernelIdeal.Gen.facts Cert.ReferenceIdeal.Gen.facts factsK := by
  intro m g m' g' hpre hargs
  have H : Cert.KernelIdeal.Pf.Args m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { e0 := fun c => (hargs c).1
      e1 := fun c => (hargs c).2.1
      e2 := fun c => (hargs c).2.2.1
      e3 := fun c => (hargs c).2.2.2.1
      e4 := fun c => (hargs c).2.2.2.2
      r0 := fun c => (@Cert.KernelIdeal.Pf.pre_real factsK _ _ _ _ _ (hpre c)).1
      r1 := fun c => (@Cert.KernelIdeal.Pf.pre_real factsK _ _ _ _ _ (hpre c)).2.1
      r2 := fun c => (@Cert.KernelIdeal.Pf.pre_real factsK _ _ _ _ _ (hpre c)).2.2 }
  refine ⟨_, (θ_run _ _ _).mono (fun r h c => ⟨((h.1 c).1 3).trans (H.out g c), ((h.1 c).1 0).trans (Cert.KernelIdeal.Pf.finalA_in m g c 0 rfl),
    ((h.1 c).1 1).trans (Cert.KernelIdeal.Pf.finalA_in m g c 1 rfl), (h.1 c).2.1, (h.1 c).2.2,
    ((h.1 c).1 2).trans (Cert.KernelIdeal.Pf.finalA_in m g c 2 rfl)⟩) (Cert.KernelIdeal.Pf.run_main (F := Ideal) m g), ?_⟩
  exact (θ_run Cert.ReferenceIdeal.defs _ _).mono (fun r h => ⟨(h 0).1.trans (Cert.ReferenceIdeal.Pf.res_eq m' 0), (h 0).2⟩)
    (Cert.ReferenceIdeal.Value.run (F := Ideal) m' g')

theorem claim : Cert.Claim :=
  ⟨Cert.Kernel.Gen.facts, Cert.KernelIdeal.Gen.facts, Cert.ReferenceIdeal.Gen.facts, factsK, factsR,
    frame_Kernel, frame_KernelIdeal, fun m g _ => frame_KernelIdeal m g trivial,
    frame_ReferenceIdeal, fun m g _ => frame_ReferenceIdeal m g trivial, preserves, algebraic⟩

end Cert.Proof

end
